-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4096x1024 : Shape := ⟨2, ![4096, 1024]⟩
abbrev S4 : Shape := ⟨1, ![4]⟩
abbrev S2 : Shape := ⟨1, ![2]⟩
abbrev S1 : Shape := ⟨1, ![1]⟩
abbrev S_ : Shape := ⟨0, ![]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S4096x1024, .f32⟩
  | .local _ .vmem, ⟨1, _⟩ => ⟨S4096x1024, .f32⟩
  | _, _ => ⟨S16384x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_10 : BitVec 32 := 4#32
  let v19 : BitVec 32 := Scalar.muli v15 c4_i32_10
  let v20 : BitVec 32 := Scalar.addi c0_i32 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v21 : BitVec 32 := Scalar.muli v5 c2_i32_11
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v23 : BitVec 32 := Scalar.muli v8 c1_i32_12
  let v24 : BitVec 32 := Scalar.addi v22 v23
  v24.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v25 : BitVec 32 := Scalar.muli v2 c4_i32_14
  let v26 : BitVec 32 := Scalar.addi c0_i32_15 v25
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_16 : BitVec 32 := 2#32
  let v27 : BitVec 32 := Scalar.muli v16 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_22 : BitVec 32 := 1#32
  let v35 : BitVec 32 := Scalar.muli v17 c1_i32_22
  let v36 : BitVec 32 := Scalar.addi v34 v35
  v36.toNat
def k0_off1 (d0 : Dev nD) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4096_i32 : BitVec 32 := 4096#32
  let v14 : BitVec 32 := Scalar.muli v10 c4096_i32
  let c0_i32_24 : BitVec 32 := 0#32
  ![v14.toNat, 0]
def k0_off2 (d0 : Dev nD) (c0_i32_25 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c4096_i32 : BitVec 32 := 4096#32
  let v14 : BitVec 32 := Scalar.muli v10 c4096_i32
  let v38 : BitVec 32 := Scalar.addi v14 c0_i32_25
  let c0_i32_34 : BitVec 32 := 0#32
  ![v38.toNat, 0]
def k0_dev4 (d0 : Dev nD) : Nat :=
  let c0_i32_29 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_28 : BitVec 32 := 4#32
  let v39 : BitVec 32 := Scalar.muli v15 c4_i32_28
  let v40 : BitVec 32 := Scalar.addi c0_i32_29 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v41 : BitVec 32 := Scalar.muli v5 c2_i32_30
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v43 : BitVec 32 := Scalar.muli v8 c1_i32_31
  let v44 : BitVec 32 := Scalar.addi v42 v43
  v44.toNat
def k0_dev5 (d0 : Dev nD) : Nat :=
  let c0_i32_38 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_37 : BitVec 32 := 4#32
  let v52 : BitVec 32 := Scalar.muli v15 c4_i32_37
  let v53 : BitVec 32 := Scalar.addi c0_i32_38 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v54 : BitVec 32 := Scalar.muli v5 c2_i32_39
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v56 : BitVec 32 := Scalar.muli v8 c1_i32_40
  let v57 : BitVec 32 := Scalar.addi v55 v56
  v57.toNat
def k0_dev6 (d0 : Dev nD) : Nat :=
  let c0_i32_47 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_46 : BitVec 32 := 4#32
  let v65 : BitVec 32 := Scalar.muli v15 c4_i32_46
  let v66 : BitVec 32 := Scalar.addi c0_i32_47 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v67 : BitVec 32 := Scalar.muli v5 c2_i32_48
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v69 : BitVec 32 := Scalar.muli v8 c1_i32_49
  let v70 : BitVec 32 := Scalar.addi v68 v69
  v70.toNat
def k0_dev7 (d0 : Dev nD) : Nat :=
  let c0_i32_56 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_55 : BitVec 32 := 4#32
  let v78 : BitVec 32 := Scalar.muli v15 c4_i32_55
  let v79 : BitVec 32 := Scalar.addi c0_i32_56 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v80 : BitVec 32 := Scalar.muli v5 c2_i32_57
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v82 : BitVec 32 := Scalar.muli v8 c1_i32_58
  let v83 : BitVec 32 := Scalar.addi v81 v82
  v83.toNat
def k0_dev8 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v108 : BitVec 32 := Scalar.muli v2 c4_i32_80
  let v109 : BitVec 32 := Scalar.addi c0_i32_81 v108
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_82 : BitVec 32 := 2#32
  let v110 : BitVec 32 := Scalar.muli v16 c2_i32_82
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v112 : BitVec 32 := Scalar.muli v8 c1_i32_83
  let v113 : BitVec 32 := Scalar.addi v111 v112
  v113.toNat
def k0_dev9 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v121 : BitVec 32 := Scalar.muli v2 c4_i32_90
  let v122 : BitVec 32 := Scalar.addi c0_i32_91 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v123 : BitVec 32 := Scalar.muli v5 c2_i32_92
  let v124 : BitVec 32 := Scalar.addi v122 v123
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_93 : BitVec 32 := 1#32
  let v125 : BitVec 32 := Scalar.muli v17 c1_i32_93
  let v126 : BitVec 32 := Scalar.addi v124 v125
  v126.toNat
def k0_dev10 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v150 : BitVec 32 := Scalar.muli v2 c4_i32_114
  let v151 : BitVec 32 := Scalar.addi c0_i32_115 v150
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_116 : BitVec 32 := 2#32
  let v152 : BitVec 32 := Scalar.muli v16 c2_i32_116
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v154 : BitVec 32 := Scalar.muli v8 c1_i32_117
  let v155 : BitVec 32 := Scalar.addi v153 v154
  v155.toNat
def k0_dev11 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v163 : BitVec 32 := Scalar.muli v2 c4_i32_124
  let v164 : BitVec 32 := Scalar.addi c0_i32_125 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v165 : BitVec 32 := Scalar.muli v5 c2_i32_126
  let v166 : BitVec 32 := Scalar.addi v164 v165
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_127 : BitVec 32 := 1#32
  let v167 : BitVec 32 := Scalar.muli v17 c1_i32_127
  let v168 : BitVec 32 := Scalar.addi v166 v167
  v168.toNat
def k0_dev12 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v192 : BitVec 32 := Scalar.muli v2 c4_i32_148
  let v193 : BitVec 32 := Scalar.addi c0_i32_149 v192
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_150 : BitVec 32 := 2#32
  let v194 : BitVec 32 := Scalar.muli v16 c2_i32_150
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v196 : BitVec 32 := Scalar.muli v8 c1_i32_151
  let v197 : BitVec 32 := Scalar.addi v195 v196
  v197.toNat
def k0_dev13 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v205 : BitVec 32 := Scalar.muli v2 c4_i32_158
  let v206 : BitVec 32 := Scalar.addi c0_i32_159 v205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v207 : BitVec 32 := Scalar.muli v5 c2_i32_160
  let v208 : BitVec 32 := Scalar.addi v206 v207
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_161 : BitVec 32 := 1#32
  let v209 : BitVec 32 := Scalar.muli v17 c1_i32_161
  let v210 : BitVec 32 := Scalar.addi v208 v209
  v210.toNat
def k0_off3 (d0 : Dev nD) (c1_i32_5 : BitVec 32) (c0_i32_166 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v12 : BitVec 32 := Scalar.xori v10 c1_i32_5
  let c4096_i32_165 : BitVec 32 := 4096#32
  let v217 : BitVec 32 := Scalar.muli v12 c4096_i32_165
  let v218 : BitVec 32 := Scalar.addi v217 c0_i32_166
  let c0_i32_173 : BitVec 32 := 0#32
  ![v218.toNat, 0]
def k0_dev14 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v231 : BitVec 32 := Scalar.muli v2 c4_i32_179
  let v232 : BitVec 32 := Scalar.addi c0_i32_180 v231
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_181 : BitVec 32 := 2#32
  let v233 : BitVec 32 := Scalar.muli v16 c2_i32_181
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v235 : BitVec 32 := Scalar.muli v8 c1_i32_182
  let v236 : BitVec 32 := Scalar.addi v234 v235
  v236.toNat
def k0_dev15 (d0 : Dev nD) : Nat :=
  let c0_i32_213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_212 : BitVec 32 := 4#32
  let v272 : BitVec 32 := Scalar.muli v2 c4_i32_212
  let v273 : BitVec 32 := Scalar.addi c0_i32_213 v272
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_214 : BitVec 32 := 2#32
  let v274 : BitVec 32 := Scalar.muli v16 c2_i32_214
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v276 : BitVec 32 := Scalar.muli v8 c1_i32_215
  let v277 : BitVec 32 := Scalar.addi v275 v276
  v277.toNat
def k0_dev16 (d0 : Dev nD) : Nat :=
  let c0_i32_223 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_222 : BitVec 32 := 4#32
  let v285 : BitVec 32 := Scalar.muli v2 c4_i32_222
  let v286 : BitVec 32 := Scalar.addi c0_i32_223 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_224 : BitVec 32 := 2#32
  let v287 : BitVec 32 := Scalar.muli v5 c2_i32_224
  let v288 : BitVec 32 := Scalar.addi v286 v287
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_225 : BitVec 32 := 1#32
  let v289 : BitVec 32 := Scalar.muli v17 c1_i32_225
  let v290 : BitVec 32 := Scalar.addi v288 v289
  v290.toNat
def k0_dev17 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v311 : BitVec 32 := Scalar.muli v2 c4_i32_243
  let v312 : BitVec 32 := Scalar.addi c0_i32_244 v311
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_245 : BitVec 32 := 2#32
  let v313 : BitVec 32 := Scalar.muli v16 c2_i32_245
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v315 : BitVec 32 := Scalar.muli v8 c1_i32_246
  let v316 : BitVec 32 := Scalar.addi v314 v315
  v316.toNat
def k0_dev18 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v364 : BitVec 32 := Scalar.muli v2 c4_i32_285
  let v365 : BitVec 32 := Scalar.addi c0_i32_286 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v366 : BitVec 32 := Scalar.muli v5 c2_i32_287
  let v367 : BitVec 32 := Scalar.addi v365 v366
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_288 : BitVec 32 := 1#32
  let v368 : BitVec 32 := Scalar.muli v17 c1_i32_288
  let v369 : BitVec 32 := Scalar.addi v367 v368
  v369.toNat
def k0_dev19 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v402 : BitVec 32 := Scalar.muli v2 c4_i32_315
  let v403 : BitVec 32 := Scalar.addi c0_i32_316 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v404 : BitVec 32 := Scalar.muli v5 c2_i32_317
  let v405 : BitVec 32 := Scalar.addi v403 v404
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_318 : BitVec 32 := 1#32
  let v406 : BitVec 32 := Scalar.muli v17 c1_i32_318
  let v407 : BitVec 32 := Scalar.addi v405 v406
  v407.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.GeomKernelIdeal.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-! # The mesh, the chunks and their contents

The eight devices are the corners of a cube. The two devices along `x` hold the two terms of the
sum; the four devices of one `x` face each own one quarter of the rows. A quarter is moved in four
chunks of 1024 rows. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

/-- The neighbour of device `c` along mesh axis `j` (`0` is `x`, `1` is `y`, `2` is `z`). -/
def nbr (j : Fin 3) (c : Dev nD) : Dev nD :=
  ⟨(c.val ^^^ (![4, 2, 1] j)) % 8, Nat.mod_lt _ (by decide)⟩

/-- The neighbour of the neighbour is the device itself. -/
theorem nbr_nbr (j : Fin 3) (c : Dev nD) : nbr j (nbr j c) = c := by
  revert j c; decide

/-- The quarter of the rows that device `c` owns, moved by mask `k`: `0` its own, `1` its `z`
    neighbour's, `2` its `y` neighbour's, `3` that of the opposite corner of its face. -/
def qr (c : Dev nD) (k : Fin 4) : Fin 4 := ⟨((c.val % 4) ^^^ k.val) % 4, Nat.mod_lt _ (by decide)⟩

/-- The device of `c`'s face that owns quarter `q`. -/
def ownQ (c : Dev nD) (q : Fin 4) : Dev nD := ⟨4 * (c.val / 4) + q.val, by have h : c.val < 8 := c.isLt; show _ < 8; omega⟩

theorem ownQ_self (c : Dev nD) : ownQ c (qr c 0) = c := by revert c; decide
theorem ownQ_nbr (c : Dev nD) (q : Fin 4) : ownQ (nbr 1 c) q = ownQ c q ∧ ownQ (nbr 2 c) q = ownQ c q := by
  revert c q; decide
theorem qr_nbr (c : Dev nD) (k : Fin 4) :
    qr (nbr 0 c) k = qr c k ∧ qr (nbr 1 c) k = qr c (⟨(k.val ^^^ 2) % 4, Nat.mod_lt _ (by decide)⟩)
      ∧ qr (nbr 2 c) k = qr c (⟨(k.val ^^^ 1) % 4, Nat.mod_lt _ (by decide)⟩) := by
  revert c k; decide

/-! ## Chunks of the arrays -/

abbrev xB : Memref sig .tc .hbm S16384x1024 .f32 := Memref.whole main_arg0
abbrev oB : Memref sig .tc .hbm S16384x1024 .f32 := Memref.whole main_v1
abbrev rB : Memref sig .tc .vmem S4096x1024 .f32 := Memref.whole cc0_scratch0
abbrev qB : Memref sig .tc .vmem S4096x1024 .f32 := Memref.whole cc0_scratch1

theorem big_inb (q a : Fin 4) : ∀ i, (![4096 * q.val + 1024 * a.val, 0] : Fin 2 → Nat) i + S1024x1024.size i ≤ S16384x1024.size i := by
  revert q a; decide
theorem quarter_inb (q : Fin 4) : ∀ i, (![4096 * q.val, 0] : Fin 2 → Nat) i + S4096x1024.size i ≤ S16384x1024.size i := by
  revert q; decide
theorem small_inb (a : Fin 4) : ∀ i, (![1024 * a.val, 0] : Fin 2 → Nat) i + S1024x1024.size i ≤ S4096x1024.size i := by
  revert a; decide

/-- Rows of chunk `a` of quarter `q` of a whole array. -/
abbrev bigR (q a : Fin 4) : Rect S16384x1024 :=
  Rect.unit (s := S16384x1024) ![4096 * q.val + 1024 * a.val, 0] S1024x1024.size (big_inb q a)
/-- Rows of quarter `q` of a whole array. -/
abbrev quarterR (q : Fin 4) : Rect S16384x1024 :=
  Rect.unit (s := S16384x1024) ![4096 * q.val, 0] S4096x1024.size (quarter_inb q)
/-- Rows of chunk `a` of a quarter held in scratch memory. -/
abbrev smallR (a : Fin 4) : Rect S4096x1024 :=
  Rect.unit (s := S4096x1024) ![1024 * a.val, 0] S1024x1024.size (small_inb a)

abbrev xC (q a : Fin 4) : Memref sig .tc .hbm S1024x1024 .f32 := xB.slice (bigR q a) (fun _ => rfl)
abbrev oC (q a : Fin 4) : Memref sig .tc .hbm S1024x1024 .f32 := oB.slice (bigR q a) (fun _ => rfl)
abbrev xQ (q : Fin 4) : Memref sig .tc .hbm S4096x1024 .f32 := xB.slice (quarterR q) (fun _ => rfl)
abbrev oQ (q : Fin 4) : Memref sig .tc .hbm S4096x1024 .f32 := oB.slice (quarterR q) (fun _ => rfl)
abbrev rC (a : Fin 4) : Memref sig .tc .vmem S1024x1024 .f32 := rB.slice (smallR a) (fun _ => rfl)

/-- The place in a whole array of an index of its quarter `q`. -/
def lift (q : Fin 4) (i : S4096x1024.Idx) : S16384x1024.Idx := (quarterR q).emb i

theorem bigR_emb (q a : Fin 4) (j : S1024x1024.Idx) : (bigR q a).emb j = lift q ((smallR a).emb j) := by
  funext i
  apply Fin.ext
  fin_cases i
  · show 4096 * q.val + 1024 * a.val + 1 * (j 0).val = 4096 * q.val + 1 * (1024 * a.val + 1 * (j 0).val); omega
  · show 0 + 1 * (j 1).val = 0 + 1 * (0 + 1 * (j 1).val); omega

theorem lift_row (q : Fin 4) (i : S4096x1024.Idx) : (lift q i 0).val / 4096 = q.val := by
  show (4096 * q.val + 1 * (i 0).val) / 4096 = q.val
  have : (i 0).val < 4096 := (i 0).isLt
  omega

theorem mem_bigR {q a : Fin 4} {i : S16384x1024.Idx} :
    i ∈ (bigR q a).set ↔ 4096 * q.val + 1024 * a.val ≤ (i 0).val ∧ (i 0).val < 4096 * q.val + 1024 * a.val + 1024 := by
  rw [Rect.mem_set_unit, Fin.forall_fin_two]
  exact ⟨fun h => h.1, fun h => ⟨h, Nat.zero_le _, by have : (i 1).val < 1024 := (i 1).isLt; show (i 1).val < 0 + 1024; omega⟩⟩
theorem mem_quarterR {q : Fin 4} {i : S16384x1024.Idx} :
    i ∈ (quarterR q).set ↔ 4096 * q.val ≤ (i 0).val ∧ (i 0).val < 4096 * q.val + 4096 := by
  rw [Rect.mem_set_unit, Fin.forall_fin_two]
  exact ⟨fun h => h.1, fun h => ⟨h, Nat.zero_le _, by have : (i 1).val < 1024 := (i 1).isLt; show (i 1).val < 0 + 1024; omega⟩⟩
theorem mem_smallR {a : Fin 4} {i : S4096x1024.Idx} :
    i ∈ (smallR a).set ↔ 1024 * a.val ≤ (i 0).val ∧ (i 0).val < 1024 * a.val + 1024 := by
  rw [Rect.mem_set_unit, Fin.forall_fin_two]
  exact ⟨fun h => h.1, fun h => ⟨h, Nat.zero_le _, by have : (i 1).val < 1024 := (i 1).isLt; show (i 1).val < 0 + 1024; omega⟩⟩

/-- A quarter is the union of its four chunks. -/
theorem quarter_union (q : Fin 4) : (quarterR q).set = Finset.univ.biUnion fun a => (bigR q a).set := by
  ext i
  simp only [Finset.mem_biUnion, Finset.mem_univ, true_and, mem_quarterR, mem_bigR]
  constructor
  · intro h
    exact ⟨⟨((i 0).val - 4096 * q.val) / 1024, by omega⟩, by dsimp only; omega⟩
  · rintro ⟨a, h⟩; have := a.isLt; omega
/-- A whole array is the union of its four quarters. -/
theorem whole_union : (Finset.univ : Finset S16384x1024.Idx) = Finset.univ.biUnion fun q => (quarterR q).set := by
  ext i
  simp only [Finset.mem_biUnion, Finset.mem_univ, true_and, mem_quarterR, true_iff]
  have : (i 0).val < 16384 := (i 0).isLt
  exact ⟨⟨(i 0).val / 4096, by omega⟩, by dsimp only; omega⟩
/-- A scratch quarter is the union of its four chunks. -/
theorem small_union : (Finset.univ : Finset S4096x1024.Idx) = Finset.univ.biUnion fun a => (smallR a).set := by
  ext i
  simp only [Finset.mem_biUnion, Finset.mem_univ, true_and, mem_smallR, true_iff]
  have : (i 0).val < 4096 := (i 0).isLt
  exact ⟨⟨(i 0).val / 1024, by omega⟩, by dsimp only; omega⟩

theorem big_disjoint (q : Fin 4) : ∀ a ∈ (Finset.univ : Finset (Fin 4)), ∀ b ∈ (Finset.univ : Finset (Fin 4)), a ≠ b →
    Disjoint (bigR q a).set (bigR q b).set := by
  intro a _ b _ h
  refine Rect.unit_disjoint 0 ?_
  have : a.val ≠ b.val := fun e => h (Fin.ext e)
  show 4096 * q.val + 1024 * a.val + 1024 ≤ 4096 * q.val + 1024 * b.val ∨ 4096 * q.val + 1024 * b.val + 1024 ≤ 4096 * q.val + 1024 * a.val
  omega
theorem quarter_disjoint : ∀ a ∈ (Finset.univ : Finset (Fin 4)), ∀ b ∈ (Finset.univ : Finset (Fin 4)), a ≠ b →
    Disjoint (quarterR a).set (quarterR b).set := by
  intro a _ b _ h
  refine Rect.unit_disjoint 0 ?_
  have : a.val ≠ b.val := fun e => h (Fin.ext e)
  show 4096 * a.val + 4096 ≤ 4096 * b.val ∨ 4096 * b.val + 4096 ≤ 4096 * a.val
  omega
theorem small_disjoint : ∀ a ∈ (Finset.univ : Finset (Fin 4)), ∀ b ∈ (Finset.univ : Finset (Fin 4)), a ≠ b →
    Disjoint (smallR a).set (smallR b).set := by
  intro a _ b _ h
  refine Rect.unit_disjoint 0 ?_
  have : a.val ≠ b.val := fun e => h (Fin.ext e)
  show 1024 * a.val + 1024 ≤ 1024 * b.val ∨ 1024 * b.val + 1024 ≤ 1024 * a.val
  omega

theorem xC_set (q a : Fin 4) : (xC q a).view.set = (bigR q a).set := View.set_slice_whole _ _
theorem oC_set (q a : Fin 4) : (oC q a).view.set = (bigR q a).set := View.set_slice_whole _ _
theorem xQ_set (q : Fin 4) : (xQ q).view.set = (quarterR q).set := View.set_slice_whole _ _
theorem oQ_set (q : Fin 4) : (oQ q).view.set = (quarterR q).set := View.set_slice_whole _ _
theorem rC_set (a : Fin 4) : (rC a).view.set = (smallR a).set := View.set_slice_whole _ _

/-! ## Contents -/

section Contents
variable (m : (ℓ : Loc nD τ sig) → Buf (Elt F) ℓ)

/-- The argument array of device `c` as the launch finds it. -/
def X (c : Dev nD) : S16384x1024.Idx → Elt F .f32 := m ((c : Thread nD τ).loc main_arg0)

/-- The result every device ends with: row by row, the sum of the two arguments held along `x` by
    the devices that own the row's quarter. -/
def outF (c : Dev nD) : S16384x1024.Idx → Elt F .f32 := fun i =>
  let d := ownQ c ⟨(i 0).val / 4096, by have : (i 0).val < 16384 := (i 0).isLt; omega⟩
  FloatOps.addf (X m (nbr 0 d) i) (X m d i)

/-- What a device receives of its `x` neighbour: that device's argument on the shared quarter. -/
def recvF (c : Dev nD) : S4096x1024.Idx → Elt F .f32 := fun i => X m (nbr 0 c) (lift (qr c 0) i)
/-- A device's own argument on its quarter. -/
def xqF (c : Dev nD) : S4096x1024.Idx → Elt F .f32 := fun i => X m c (lift (qr c 0) i)
/-- The sum on a device's quarter. -/
def sumR (c : Dev nD) : S4096x1024.Idx → Elt F .f32 := fun i => outF m c (lift (qr c 0) i)

/-- On its own quarter a device's result is the sum of what it received and what it holds. -/
theorem sumR_eq (c : Dev nD) (i : S4096x1024.Idx) : sumR m c i = FloatOps.addf (recvF m c i) (xqF m c i) := by
  have h : ownQ c ⟨(lift (qr c 0) i 0).val / 4096, by
      have : (lift (qr c 0) i 0).val < 16384 := (lift (qr c 0) i 0).isLt; omega⟩ = c := by
    rw [show (⟨_, _⟩ : Fin 4) = qr c 0 from Fin.ext (lift_row _ i)]; exact ownQ_self c
  show FloatOps.addf (X m (nbr 0 (ownQ c _)) (lift (qr c 0) i)) (X m (ownQ c _) (lift (qr c 0) i)) = _
  rw [h]; rfl

/-- The devices of one face end with the same result. -/
theorem outF_y (c : Dev nD) : outF m (nbr 1 c) = outF m c := by
  funext i; show FloatOps.addf (X m (nbr 0 (ownQ (nbr 1 c) _)) i) (X m (ownQ (nbr 1 c) _) i) = _
  rw [(ownQ_nbr c _).1]; rfl
theorem outF_z (c : Dev nD) : outF m (nbr 2 c) = outF m c := by
  funext i; show FloatOps.addf (X m (nbr 0 (ownQ (nbr 2 c) _)) i) (X m (ownQ (nbr 2 c) _) i) = _
  rw [(ownQ_nbr c _).2]; rfl

end Contents

/-- Writing through one view what another reads leaves, on the written elements, the contents whose
    reading agrees. -/
theorem landed {Val : EltTy → Type} {κ : Kind} {sp : Space} {s : Shape} {e : EltTy}
    (dst : View sig κ sp s e) (fd g : dst.ty.Contents Val) (w : s.Idx → Val e)
    (h : dst.read Val g = w) : ∀ i ∈ dst.set, dst.write Val fd w Finset.univ i = g i := by
  intro i hi
  obtain ⟨x, -, rfl⟩ := Finset.mem_map.1 hi
  rw [View.write_emb_of_mem _ _ (Finset.mem_univ _), ← h, View.read_apply, _root_.cast_cast, _root_.cast_eq]

end Cert.KernelIdealProof

end
-- ==== Proof.SchedKernelIdeal.lean ====
module

public import proofs.«01_k».proof.Proof.GeomKernelIdeal

@[expose] public section

/-! # The semaphores and what passes through them

Every semaphore is used for exactly one round. The barrier semaphore of a device collects one unit
from each of its three neighbours, and with each unit the places of that neighbour's memory the
device will later write to. Each copy semaphore collects one copy's credit, and with it the memory
that copy has read or written. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Copies -/

/-- The semaphores of copies. `p1`: an argument chunk sent along `x`; `dy`, `dz`: a summed chunk sent
    along `y`, `z`; `fy`, `fz`: a received chunk passed on along `y`, `z`; each with a sender's and a
    receiver's semaphore. `sts` is the local copy of the own sums to the result, `xls` the local copy
    of the own argument quarter. -/
inductive Cl where
  | p1s (a : Fin 4) | p1r (a : Fin 4)
  | dys (a : Fin 4) | dyr (a : Fin 4)
  | dzs (a : Fin 4) | dzr (a : Fin 4)
  | fys (i : Fin 2) | fyr (i : Fin 2)
  | fzs (i : Fin 2) | fzr (i : Fin 2)
  | sts | xls
deriving DecidableEq

/-- All of them, in the order of their numbers. -/
abbrev allCl : List Cl :=
  [.p1s 0, .p1s 1, .p1s 2, .p1s 3, .p1r 0, .p1r 1, .p1r 2, .p1r 3,
   .dys 0, .dys 1, .dys 2, .dys 3, .dyr 0, .dyr 1, .dyr 2, .dyr 3,
   .dzs 0, .dzs 1, .dzs 2, .dzs 3, .dzr 0, .dzr 1, .dzr 2, .dzr 3,
   .fys 0, .fys 1, .fyr 0, .fyr 1, .fzs 0, .fzs 1, .fzr 0, .fzr 1, .sts, .xls]

def enc34 : Cl → Fin 34
  | .p1s a => ⟨a.val, by omega⟩
  | .p1r a => ⟨4 + a.val, by omega⟩
  | .dys a => ⟨8 + a.val, by omega⟩
  | .dyr a => ⟨12 + a.val, by omega⟩
  | .dzs a => ⟨16 + a.val, by omega⟩
  | .dzr a => ⟨20 + a.val, by omega⟩
  | .fys i => ⟨24 + i.val, by omega⟩
  | .fyr i => ⟨26 + i.val, by omega⟩
  | .fzs i => ⟨28 + i.val, by omega⟩
  | .fzr i => ⟨30 + i.val, by omega⟩
  | .sts => 32
  | .xls => 33

def dec34 (s : Fin 34) : Cl := allCl.get s

theorem dec_enc34 : ∀ k, dec34 (enc34 k) = k := by
  intro k
  cases k <;> first | rfl | (rename_i a; revert a; decide)
theorem enc_dec34 : ∀ s, enc34 (dec34 s) = s := by decide

instance : Fintype Cl where
  elems := (Finset.univ : Finset (Fin 34)).map ⟨dec34, fun a b h => by rw [← enc_dec34 a, h, enc_dec34]⟩
  complete k := Finset.mem_map.2 ⟨enc34 k, Finset.mem_univ _, dec_enc34 k⟩

/-- The semaphore of a copy. -/
def enc (k : Cl) : DmaSem sig := enc34 k
/-- The copy of a semaphore. -/
def dec (s : DmaSem sig) : Cl := dec34 s
theorem dec_enc (k : Cl) : dec (enc k) = k := dec_enc34 k
theorem enc_dec (s : DmaSem sig) : enc (dec s) = s := enc_dec34 s
theorem enc_inj {k k' : Cl} (h : enc k = enc k') : k = k' := by rw [← dec_enc k, h, dec_enc]

/-- The axis along which a receiver's semaphore is paid. -/
def dir : Cl → Option (Fin 3)
  | .p1r _ => some 0
  | .dyr _ => some 1
  | .fyr _ => some 1
  | .dzr _ => some 2
  | .fzr _ => some 2
  | _ => none

/-- Who pays device `c`'s semaphore `k`, and whose semaphore `k` device `c` pays. -/
def peer (c : Dev nD) (k : Cl) : Dev nD := match dir k with | none => c | some j => nbr j c
theorem peer_peer (c : Dev nD) (k : Cl) : peer (peer c k) k = c := by
  unfold peer; cases dir k with
  | none => rfl
  | some j => exact nbr_nbr j c
theorem peer_of_none {c : Dev nD} {k : Cl} (h : dir k = none) : peer c k = c := by unfold peer; rw [h]
theorem peer_of_some {c : Dev nD} {k : Cl} {j : Fin 3} (h : dir k = some j) : peer c k = nbr j c := by unfold peer; rw [h]

/-- The credit of a copy. -/
def amt : Cl → ℕ
  | .p1s _ => (rC 0).view.dmaCredit
  | .p1r _ => (rC 0).view.dmaCredit
  | .sts => (oQ 0).view.dmaCredit
  | .xls => (qB : Memref sig .tc .vmem S4096x1024 .f32).view.dmaCredit
  | _ => (oC 0 0).view.dmaCredit
theorem amt_pos (k : Cl) : 0 < amt k := by
  cases k <;> exact View.dmaCredit_pos _ (by decide)

/-! ## Cells -/

abbrev barS : Sem sig := (SemArray.scalar (sig.barrier 0 rfl) : Sems sig S_).sem
abbrev barCell (c : Dev nD) : GSem nD τ sig := ((c : Thread nD τ), .reg barS)
abbrev dcell (c : Dev nD) (k : Cl) : GSem nD τ sig := ((c : Thread nD τ), .dma (enc k))

/-! ## Memory held -/

abbrev sL : PosShare TreeShare := fullShare.left
abbrev sRt : PosShare TreeShare := fullShare.right
abbrev sRL : PosShare TreeShare := fullShare.right.left
abbrev sRR : PosShare TreeShare := fullShare.right.right

/-- Chunk `a` of quarter `q` of device `c`'s argument. -/
def xPts (c : Dev nD) (q a : Fin 4) (s : PosShare TreeShare) (f : S16384x1024.Idx → Elt F .f32) : sProp 𝕄 :=
  (xC q a).view.loc (c : Thread nD τ) ↦[(xC q a).view.set]{s} f
/-- Quarter `q` of device `c`'s argument. -/
def xqPts (c : Dev nD) (q : Fin 4) (s : PosShare TreeShare) (f : S16384x1024.Idx → Elt F .f32) : sProp 𝕄 :=
  (xQ q).view.loc (c : Thread nD τ) ↦[(xQ q).view.set]{s} f
/-- Chunk `a` of quarter `q` of device `c`'s result. -/
def oPts (c : Dev nD) (q a : Fin 4) (f : S16384x1024.Idx → Elt F .f32) : sProp 𝕄 :=
  (oC q a).view.loc (c : Thread nD τ) ↦[(oC q a).view.set]{fullShare} f
/-- Quarter `q` of device `c`'s result. -/
def oqPts (c : Dev nD) (q : Fin 4) (f : S16384x1024.Idx → Elt F .f32) : sProp 𝕄 :=
  (oQ q).view.loc (c : Thread nD τ) ↦[(oQ q).view.set]{fullShare} f
/-- Chunk `a` of device `c`'s receive buffer. -/
def rPts (c : Dev nD) (a : Fin 4) (s : PosShare TreeShare) (f : S4096x1024.Idx → Elt F .f32) : sProp 𝕄 :=
  (rC a).view.loc (c : Thread nD τ) ↦[(rC a).view.set]{s} f
/-- Device `c`'s whole receive buffer. -/
def rwPts (c : Dev nD) (s : PosShare TreeShare) (f : S4096x1024.Idx → Elt F .f32) : sProp 𝕄 :=
  (rB : Memref sig .tc .vmem S4096x1024 .f32).view.loc (c : Thread nD τ) ↦[(rB : Memref sig .tc .vmem S4096x1024 .f32).view.set]{s} f
/-- The buffer of device `c`'s own argument quarter. -/
def qwPts (c : Dev nD) (f : S4096x1024.Idx → Elt F .f32) : sProp 𝕄 :=
  (qB : Memref sig .tc .vmem S4096x1024 .f32).view.loc (c : Thread nD τ) ↦[(qB : Memref sig .tc .vmem S4096x1024 .f32).view.set]{fullShare} f

section Storable
omit [FloatOps F]
instance xPts_storable (c : Dev nD) (q a s f) : BI.Storable (upEmb : UEmb _ 𝕄) (xPts (F := F) c q a s f) := by unfold xPts; infer_instance
instance xqPts_storable (c : Dev nD) (q s f) : BI.Storable (upEmb : UEmb _ 𝕄) (xqPts (F := F) c q s f) := by unfold xqPts; infer_instance
instance oPts_storable (c : Dev nD) (q a f) : BI.Storable (upEmb : UEmb _ 𝕄) (oPts (F := F) c q a f) := by unfold oPts; infer_instance
instance oqPts_storable (c : Dev nD) (q f) : BI.Storable (upEmb : UEmb _ 𝕄) (oqPts (F := F) c q f) := by unfold oqPts; infer_instance
instance rPts_storable (c : Dev nD) (a s f) : BI.Storable (upEmb : UEmb _ 𝕄) (rPts (F := F) c a s f) := by unfold rPts; infer_instance
instance rwPts_storable (c : Dev nD) (s f) : BI.Storable (upEmb : UEmb _ 𝕄) (rwPts (F := F) c s f) := by unfold rwPts; infer_instance
instance qwPts_storable (c : Dev nD) (f) : BI.Storable (upEmb : UEmb _ 𝕄) (qwPts (F := F) c f) := by unfold qwPts; infer_instance
end Storable

/-! ## What each copy's semaphore hands over -/

/-- The chunks passed on along `y` are the first two, those along `z` the last two. -/
abbrev lo (i : Fin 2) : Fin 4 := ⟨i.val, by omega⟩
abbrev hi (i : Fin 2) : Fin 4 := ⟨i.val + 2, by omega⟩

/-- What device `c` gets from its semaphore `k`: a sender the memory it sent, back; a receiver the
    memory written, at its new contents. -/
def pay (c : Dev nD) : Cl → sProp 𝕄
  | .p1s a => xPts c (qr c 0) a sRt (X m c)
  | .p1r a => rPts c a fullShare (recvF m c)
  | .dys a => rPts c a sL (sumR m c)
  | .dyr a => oPts c (qr c 2) a (outF m c)
  | .dzs a => rPts c a sRL (sumR m c)
  | .dzr a => oPts c (qr c 1) a (outF m c)
  | .fys i => oPts c (qr c 1) (lo i) (outF m c)
  | .fyr i => oPts c (qr c 3) (lo i) (outF m c)
  | .fzs i => oPts c (qr c 2) (hi i) (outF m c)
  | .fzr i => oPts c (qr c 3) (hi i) (outF m c)
  | .sts => iprop(oqPts c (qr c 0) (outF m c) ∗ rwPts c sRR (sumR m c))
  | .xls => iprop(qwPts c (xqF m c) ∗ xqPts c (qr c 0) sL (X m c))

/-- Where on device `d` the copy of its semaphore `k` will land. -/
def landing (d : Dev nD) : Cl → sProp 𝕄
  | .p1r a => iprop(∃ f, rPts (F := F) d a fullShare f)
  | .dyr a => iprop(∃ f, oPts (F := F) d (qr d 2) a f)
  | .dzr a => iprop(∃ f, oPts (F := F) d (qr d 1) a f)
  | .fyr i => iprop(∃ f, oPts (F := F) d (qr d 3) (lo i) f)
  | .fzr i => iprop(∃ f, oPts (F := F) d (qr d 3) (hi i) f)
  | _ => iprop(emp)

/-- The part of the neighbour's promise along axis `j` about semaphore `k`. -/
def landAt (j : Fin 3) (d : Dev nD) (k : Cl) : sProp 𝕄 := if dir k = some j then landing d k else iprop(emp)

/-- What neighbour `j` hands to device `c` with its barrier unit: where `c`'s copies to it land. -/
def barPay (c : Dev nD) (j : Fin 3) : sProp 𝕄 := bigSep Finset.univ fun k => landAt j (nbr j c) k

instance pay_storable (c : Dev nD) (k : Cl) : BI.Storable (upEmb : UEmb _ 𝕄) (pay m c k) := by
  cases k <;> (unfold pay; infer_instance)
omit [FloatOps F] in
instance landing_storable (d : Dev nD) (k : Cl) : BI.Storable (upEmb : UEmb _ 𝕄) (landing (F := F) d k) := by
  cases k <;> (unfold landing; infer_instance)
omit [FloatOps F] in
instance landAt_storable (j : Fin 3) (d : Dev nD) (k : Cl) : BI.Storable (upEmb : UEmb _ 𝕄) (landAt (F := F) j d k) := by
  unfold landAt; split <;> infer_instance
omit [FloatOps F] in
instance barPay_storable (c : Dev nD) (j : Fin 3) : BI.Storable (upEmb : UEmb _ 𝕄) (barPay (F := F) c j) := by
  unfold barPay; infer_instance

/-! ## The schedule -/

/-- One round per semaphore: three duties of one unit on a barrier, one duty of the copy's credit on
    a copy's semaphore. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma s => amt (dec s)
  payload g _ d := match g.2 with | .reg _ => barPay g.1.1 d | .dma s => pay m g.1.1 (dec s)
  amount_pos g _ _ _ := by
    rcases g with ⟨t, s | s⟩
    · exact Nat.one_pos
    · exact amt_pos _

instance Rd_payload_storable (g : GSem nD τ sig) (r : ℕ) (d : Fin 3) :
    BI.Storable (upEmb : UEmb _ 𝕄) ((Rd (F := F) m).payload g r d) := by
  rcases g with ⟨t, s | s⟩
  · show BI.Storable upEmb (barPay t.1 d); infer_instance
  · show BI.Storable upEmb (pay m t.1 (dec s)); infer_instance

theorem duties_bar (c : Dev nD) : (Rd (F := F) m).duties (barCell c) 0 = Finset.univ := by dsimp only [Rd]; exact if_pos ⟨rfl, rfl⟩
theorem duties_dma (c : Dev nD) (k : Cl) : (Rd (F := F) m).duties (dcell c k) 0 = {0} := by dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_bar (c : Dev nD) (d : Fin 3) : (Rd (F := F) m).amount (barCell c) 0 d = 1 := rfl
theorem amount_dma (c : Dev nD) (k : Cl) (d : Fin 3) : (Rd (F := F) m).amount (dcell c k) 0 d = amt k := by
  show amt (dec (enc k)) = _; rw [dec_enc]
theorem expect_bar (c : Dev nD) : (Rd (F := F) m).expect (barCell c) 0 = 3 := by
  unfold Schedule.expect Schedule.amountOf
  rw [duties_bar, Finset.sum_congr rfl fun d _ => amount_bar m c d]; rfl
theorem expect_dma (c : Dev nD) (k : Cl) : (Rd (F := F) m).expect (dcell c k) 0 = amt k := by
  unfold Schedule.expect Schedule.amountOf; rw [duties_dma, Finset.sum_singleton, amount_dma]
theorem payload_bar (c : Dev nD) (d : Fin 3) : (Rd (F := F) m).payload (barCell c) 0 d = barPay c d := rfl
theorem payload_dma (c : Dev nD) (k : Cl) (d : Fin 3) : (Rd (F := F) m).payload (dcell c k) 0 d = pay m c k := by
  show pay m c (dec (enc k)) = _; rw [dec_enc]
theorem rest_bar (c : Dev nD) : bigSep ((Rd (F := F) m).duties (barCell c) 0 \ ∅) (fun d => (Rd (F := F) m).payload (barCell c) 0 d)
    = bigSep Finset.univ (fun j => barPay c j) := by
  rw [Finset.sdiff_empty, duties_bar]; rfl
theorem rest_dma (c : Dev nD) (k : Cl) : bigSep ((Rd (F := F) m).duties (dcell c k) 0 \ ∅) (fun d => (Rd (F := F) m).payload (dcell c k) 0 d)
    = pay m c k := by
  rw [Finset.sdiff_empty, duties_dma, bigSep_singleton, payload_dma]

/-! ## What a device owes -/

/-- The credits device `c` still owes for the copies `l`. -/
def rest (c : Dev nD) : List Cl → CellTallies nD τ sig Unit
  | [] => 0
  | k :: l => rest c l + tallyAt (dcell (peer c k) k) () (amt k)

theorem rest_cons (c : Dev nD) (k : Cl) (l : List Cl) : rest c (k :: l) = rest c l + tallyAt (dcell (peer c k) k) () (amt k) := rfl

/-- The copies to other devices, in the order a device sends them. -/
abbrev order : List Cl :=
  [.p1r 0, .p1r 1, .p1r 2, .p1r 3, .dyr 0, .dzr 0, .dyr 1, .dzr 1, .dyr 2, .dzr 2, .fyr 0,
   .dyr 3, .dzr 3, .fyr 1, .fzr 0, .fzr 1]

def owed2 (c : Dev nD) : CellTallies nD τ sig Unit := rest c order + tallyAt (barCell (nbr 2 c)) () 1
def owed1 (c : Dev nD) : CellTallies nD τ sig Unit := owed2 c + tallyAt (barCell (nbr 1 c)) () 1
/-- What a device owes at the start: its copies and a unit to each neighbour's barrier. -/
def O₀ (c : Dev nD) : CellTallies nD τ sig Unit := owed1 c + tallyAt (barCell (nbr 0 c)) () 1

theorem rest_pos {c : Dev nD} {g : GSem nD τ sig} {u : Unit} : ∀ {l : List Cl}, 0 < rest c l g u → ∃ k ∈ l, g = dcell (peer c k) k
  | [], h => absurd h (Nat.lt_irrefl 0)
  | k :: l, h => by
    unfold rest at h
    rw [Pi.add_apply, Finsupp.add_apply, tallyAt_apply] at h
    by_cases hk : g = dcell (peer c k) k ∧ u = ()
    · exact ⟨k, List.mem_cons_self, hk.1⟩
    · rw [if_neg hk, Nat.add_zero] at h
      obtain ⟨k', hm, he⟩ := rest_pos h
      exact ⟨k', List.mem_cons_of_mem _ hm, he⟩

theorem O₀_pos {c : Dev nD} {g : GSem nD τ sig} {u : Unit} (h : 0 < O₀ c g u) :
    (∃ k ∈ order, g = dcell (peer c k) k) ∨ ∃ j, g = barCell (nbr j c) := by
  unfold O₀ owed1 owed2 at h
  simp only [Pi.add_apply, Finsupp.add_apply, tallyAt_apply] at h
  by_contra hn
  rw [not_or] at hn
  have h3 : ∀ j, ¬ (g = barCell (nbr j c) ∧ True) := fun j h' => hn.2 ⟨j, h'.1⟩
  rw [if_neg (h3 0), if_neg (h3 1), if_neg (h3 2), Nat.add_zero] at h
  exact hn.1 (rest_pos (l := order) h)

def L (g : GSem nD τ sig) : Finset Unit := if g.1.2 = .tc then {()} else ∅

/-- The order in which semaphores may be waited for: a device waiting at one level owes only to
    levels above. -/
def lvC : Cl → ℕ
  | .p1r _ => 2
  | .dyr a => 3 + a.val
  | .dzr a => 3 + a.val
  | .fyr _ => 10
  | .fzr _ => 10
  | _ => 0
def lv (g : GSem nD τ sig) (_ : Unit) : ℕ := match g.2 with | .reg _ => 1 | .dma s => lvC (dec s)

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (k : Cl) : lv (dcell c k) () = lvC k := by show lvC (dec (enc k)) = _; rw [dec_enc]

omit [FloatOps F] in
/-- A wait at a level below all those still owed. -/
theorem mayWait_rest (c : Dev nD) (s : SemLoc sig) (n : ℕ) (hs : lv ((c : Thread nD τ), s) () ≤ n) (l : List Cl)
    (hl : ∀ k ∈ l, n < lvC k) : (levAts L lv : sProp 𝕄) ⊢ MayWait (c : Thread nD τ) s () (rest c l) :=
  MayOwe.of_cut (L := L) (lev := lv) n (fun p hp => by rw [Finset.mem_singleton.mp hp, L_tc]; exact Finset.mem_singleton_self _)
    (fun g u hg => by obtain ⟨k, -, rfl⟩ := rest_pos hg; rw [L_tc]; exact Finset.mem_singleton_self _)
    (fun p hp => by rw [Finset.mem_singleton.mp hp]; exact hs)
    (fun g u hg => by obtain ⟨k, hk, rfl⟩ := rest_pos hg; rw [lv_dma]; exact hl k hk)

end Cert.KernelIdealProof

end
-- ==== Proof.StepsKernelIdeal.lean ====
module

public import proofs.«01_k».proof.Proof.SchedKernelIdeal

@[expose] public section

/-! # One rule per kind of effect

The state a device carries through the kernel is `core`: what it still owes, the semaphores it has
not waited for yet, the copies it has not started yet, the copies whose credit it may wait for, and
the semaphores it is done with. Every effect of the kernel moves one or two copies from one of these
sets to another. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Families along a list -/

section Families
omit [FloatOps F]
theorem fam_pick {I : Type} [DecidableEq I] {S : Finset I} {i : I} (h : i ∈ S) (Φ : I → sProp 𝕄) : bigSep S Φ ⊢ Φ i := bigSep_elim h
theorem drop_all (P : sProp 𝕄) : P ⊢ iprop(emp) := by iintro -; iempintro

/-- The members of a family along a list, in the list's order. -/
def seps (Φ : Cl → sProp 𝕄) : List Cl → sProp 𝕄
  | [] => iprop(emp)
  | k :: l => iprop(Φ k ∗ seps Φ l)
theorem seps_cons (Φ : Cl → sProp 𝕄) (k : Cl) (l : List Cl) : seps Φ (k :: l) = iprop(Φ k ∗ seps Φ l) := rfl

theorem seps_eq (Φ : Cl → sProp 𝕄) : ∀ {l : List Cl}, l.Nodup → bigSep l.toFinset Φ = seps Φ l
  | [], _ => by rw [List.toFinset_nil, bigSep_empty]; rfl
  | k :: l, h => by
    have h' := List.nodup_cons.1 h
    rw [List.toFinset_cons, bigSep_insert (fun hk => h'.1 (List.mem_toFinset.1 hk)), seps_eq Φ h'.2]; rfl
/-- Two lists with the same members, none twice, hold the same. -/
theorem seps_perm (Φ : Cl → sProp 𝕄) {l l' : List Cl} (h : l.Nodup) (h' : l'.Nodup) (he : l.toFinset = l'.toFinset) :
    seps Φ l = seps Φ l' := by rw [← seps_eq Φ h, ← seps_eq Φ h', he]
end Families

/-! ## The records all devices share -/

/-- Every cell of the protocol: `none` the barrier, `some k` copy `k`. -/
abbrev kcell (ck : Dev nD × Option Cl) : GSem nD τ sig :=
  match ck.2 with | none => barCell ck.1 | some k => dcell ck.1 k

def record (K : Dev nD × Option Cl → ℕ) (ck : Dev nD × Option Cl) : sProp 𝕄 :=
  iprop(cellInv ER (Rd m) (K ck) (kcell ck) ∗ reached ER (kcell ck) 0)
instance record_persistent (K : Dev nD × Option Cl → ℕ) (ck) : BI.Persistent (record m K ck) := by unfold record; infer_instance

/-- All invariants, with the mark that every cell has reached its only round, and the levels. -/
def records (K : Dev nD × Option Cl → ℕ) : sProp 𝕄 := iprop(bigSep Finset.univ (record m K) ∗ levAts L lv)
instance records_persistent (K : Dev nD × Option Cl → ℕ) : BI.Persistent (records m K) := by unfold records; infer_instance

theorem records_dma (K : Dev nD × Option Cl → ℕ) (c : Dev nD) (k : Cl) :
    records m K ⊢ iprop(cellInv ER (Rd m) (K (c, some k)) (dcell c k) ∗ reached ER (dcell c k) 0) := by
  unfold records; iintro ⟨H, -⟩
  ihave H := (fam_pick (Finset.mem_univ (c, some k)) (record m K)) $$ H
  unfold record; iexact H
theorem records_bar (K : Dev nD × Option Cl → ℕ) (c : Dev nD) :
    records m K ⊢ iprop(cellInv ER (Rd m) (K (c, none)) (barCell c) ∗ reached ER (barCell c) 0) := by
  unfold records; iintro ⟨H, -⟩
  ihave H := (fam_pick (Finset.mem_univ (c, none)) (record m K)) $$ H
  unfold record; iexact H
theorem records_lev (K : Dev nD × Option Cl → ℕ) : records m K ⊢ (levAts L lv : sProp 𝕄) := by
  unfold records; iintro ⟨-, H⟩; iexact H

/-! ## The state of a device -/

/-- What stays with a finished copy until the end; the chunks that are worked on further are taken
    out when they arrive. -/
def fin (c : Dev nD) : Cl → sProp 𝕄
  | .p1r _ => iprop(emp)
  | .dyr a => if a.val < 2 then oPts c (qr c 2) a (outF m c) else iprop(emp)
  | .dzr a => if a.val < 2 then iprop(emp) else oPts c (qr c 1) a (outF m c)
  | .xls => xqPts c (qr c 0) sL (X m c)
  | k => pay m c k

/-- The semaphore not waited for yet. -/
def at0 (c : Dev nD) (k : Cl) : sProp 𝕄 := atPos ER (dcell c k) 0 ∅ 0
/-- The right to pay device `c`'s part of copy `k`, with the place the copy lands; and for a sender's
    semaphore that it was not waited for. -/
def tok (c : Dev nD) (k : Cl) : sProp 𝕄 :=
  iprop(dutyTok ER (dcell (peer c k) k) 0 0 ∗ landing (peer c k) k ∗ (if dir k = none then at0 c k else iprop(emp)))
/-- A copy under way: its credit may be waited for. -/
def flt (c : Dev nD) (k : Cl) : sProp 𝕄 := iprop(at0 c k ∗ cred (tallyAt (dcell c k) () (amt k)))
/-- A copy waited for. -/
def done (c : Dev nD) (k : Cl) : sProp 𝕄 := iprop(semVal (dcell c k) 0 ∗ fin m c k)

/-- Device `c`, to receive the copies `A`, to start the copies `T`, with its copies `C` under way, done with `D`,
    and owing the credits of `l`. -/
def core (c : Dev nD) (A T C D l : List Cl) : sProp 𝕄 :=
  iprop((∃ W, owes (c : Thread nD τ) (rest c l) W) ∗ seps (flt c) A ∗ seps (tok c) T ∗ seps (flt c) C ∗ seps (done m c) D)

theorem core_take_A (c : Dev nD) (k : Cl) (A T C D l : List Cl) : core m c (k :: A) T C D l ⊢ iprop(flt c k ∗ core m c A T C D l) := by
  unfold core; rw [seps_cons]
  iintro ⟨Ho, ⟨Hk, HA⟩, HT, HC, HD⟩
  isplitl [Hk]; · iexact Hk
  isplitl [Ho]; · iexact Ho
  isplitl [HA]; · iexact HA
  isplitl [HT]; · iexact HT
  isplitl [HC] <;> iassumption
theorem core_take_C (c : Dev nD) (k : Cl) (A T C D l : List Cl) : core m c A T (k :: C) D l ⊢ iprop(flt c k ∗ core m c A T C D l) := by
  unfold core; rw [seps_cons]
  iintro ⟨Ho, HA, HT, ⟨Hk, HC⟩, HD⟩
  isplitl [Hk]; · iexact Hk
  isplitl [Ho]; · iexact Ho
  isplitl [HA]; · iexact HA
  isplitl [HT]; · iexact HT
  isplitl [HC] <;> iassumption

variable (K : Dev nD × Option Cl → ℕ)

/-! ## Copies -/

/-- Sending to a neighbour: the copy is started, and the memory sent is with the sender's semaphore. -/
theorem step_send {c n : Dev nD} {j : Fin 3} (kS kR : Cl) {A T C D l : List Cl}
    {sp sp' : Space} {s : Shape} {e : EltTy} {src : Memref sig .tc sp s e} {dst : Memref sig .tc sp' s e} {sS sR : SemLoc sig}
    (hn : n = nbr j c) (hsS : sS = .dma (enc kS)) (hsR : sR = .dma (enc kR))
    {hsc : (dst : Memref sig (Dev.tc n : Thread nD τ).2.kind sp' s e).view.ref.isScScratch = false}
    {hsrc : src.view.WordExact} {hdst : dst.view.WordExact}
    {hsem : DmaTarget.Typed sp sR (.remote (Dev.tc n : Thread nD τ) (dst : Memref sig (Dev.tc n : Thread nD τ).2.kind sp' s e) sS hsc)}
    {α : Type} {Q : α → sProp 𝕄} {k : PUnit → Prog (TpuEff nD τ sig (Elt F) Λ₀ .tc) α}
    {q : PosShare TreeShare} {fs : Buf (Elt F) (src.view.loc (c : Thread nD τ))}
    (hdS : dir kS = none) (hdR : dir kR = some j)
    (hN : dst.view.dmaCredit = amt kR) (hNS : amt kS = amt kR)
    (hpay₁ : (src.view.loc (c : Thread nD τ) ↦[src.view.set]{q} fs) ⊢ pay m c kS)
    (hland : landing (F := F) (nbr j c) kR ⊢ iprop(∃ fd : Buf (Elt F) (dst.view.loc ((nbr j c : Dev nD) : Thread nD τ)), dst.view.loc ((nbr j c : Dev nD) : Thread nD τ) ↦[dst.view.set]{fullShare} fd))
    (hpay₂ : ∀ fd : Buf (Elt F) (dst.view.loc ((nbr j c : Dev nD) : Thread nD τ)),
      (dst.view.loc ((nbr j c : Dev nD) : Thread nD τ) ↦[dst.view.set]{fullShare} (dst.view.write (Elt F) fd (src.view.read (Elt F) fs) Finset.univ)) ⊢ pay m (nbr j c) kR) :
    iprop(records m K ∗ core m c A (kS :: kR :: T) C D (kR :: l) ∗ (src.view.loc (c : Thread nD τ) ↦[src.view.set]{q} fs))
      ⊢ iprop((core m c A T (kS :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sR hsrc hdst hsem) k) Q) := by
  subst hn hsS hsR
  unfold core
  rw [seps_cons, seps_cons, seps_cons]
  unfold tok flt
  rw [peer_of_none hdS, peer_of_some hdR, if_pos hdS]
  iintro ⟨#Hr, ⟨⟨%W, Ho⟩, HA, ⟨⟨HtS, -, HaS⟩, ⟨HtR, Hl, -⟩, HT⟩, HC, HD⟩, Hs⟩ Hk
  ihave Hl := hland $$ Hl
  icases Hl with ⟨%fd, Hd⟩
  ihave HS := (records_dma m K c kS) $$ Hr
  icases HS with ⟨#HiS, #HrS⟩
  ihave HR := (records_dma m K (nbr j c) kR) $$ Hr
  icases HR with ⟨#HiR, #HrR⟩
  iapply (Rounds.wp_send_pointsTo 𝒱₀ ER (Rd m) (c : Thread nD τ) none (κ₁ := K (c, some kS)) (κ₂ := K (nbr j c, some kR))
    (r₁ := 0) (r₂ := 0) (d₁ := 0) (d₂ := 0) (fd := fd)
    (by rw [duties_dma]; exact Finset.mem_singleton_self _) (by rw [duties_dma]; exact Finset.mem_singleton_self _)
    () () (amt kR) (show dst.view.amount (.dma (enc kR)) = amt kR from hN) ((amount_dma m c kS 0).trans hNS) (amount_dma m (nbr j c) kR 0) (rest c l)
    (show rest c (kR :: l) = _ by rw [rest_cons, peer_of_some hdR]) (W := W)
    (by rw [payload_dma]; exact hpay₁)
    (by rw [payload_dma]; exact hpay₂ fd)) $$ [Hs Hd Ho HtS HtR]
  · isplitr; · iexact HiS
    isplitr; · iexact HiR
    isplitl [Hs]; · iexact Hs
    isplitl [Hd]; · iexact Hd
    isplitl [Ho]; · iexact Ho
    isplitl [HtS]; · iexact HtS
    isplitr; · iexact HrS
    isplitl [HtR]; · iexact HtR
    iexact HrR
  iintro ⟨Hc, Ho⟩
  iapply Hk
  isplitl [Ho]; · iexists W; iexact Ho
  isplitl [HA]; · iexact HA
  isplitl [HT]; · iexact HT
  isplitl [Hc HaS HC]
  · isplitl [Hc HaS]
    · isplitl [HaS]; · iexact HaS
      rw [hNS]; iexact Hc
    iexact HC
  iexact HD

/-- A copy within the device. -/
theorem step_copy {c : Dev nD} (kS : Cl) {A T C D l : List Cl}
    {sp sp' : Space} {s : Shape} {e : EltTy} {src : Memref sig .tc sp s e} {dst : Memref sig .tc sp' s e} {sS : SemLoc sig}
    (hsS : sS = .dma (enc kS))
    {hsrc : src.view.WordExact} {hdst : dst.view.WordExact}
    {hsem : DmaTarget.Typed (nD := nD) sp sS (.here (p := (c : Thread nD τ).2) dst)}
    {α : Type} {Q : α → sProp 𝕄} {k : PUnit → Prog (TpuEff nD τ sig (Elt F) Λ₀ .tc) α}
    {q : PosShare TreeShare} {fs : Buf (Elt F) (src.view.loc (c : Thread nD τ))} {fd : Buf (Elt F) (dst.view.loc (c : Thread nD τ))}
    (hdS : dir kS = none) (hN : dst.view.dmaCredit = amt kS)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay m c kS) :
    iprop(records m K ∗ core m c A (kS :: T) C D l ∗ (src.view.loc (c : Thread nD τ) ↦[src.view.set]{q} fs) ∗ (dst.view.loc (c : Thread nD τ) ↦[dst.view.set]{fullShare} fd))
      ⊢ iprop((core m c A T (kS :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) sS hsrc hdst hsem) k) Q) := by
  subst hsS
  unfold core
  rw [seps_cons, seps_cons]
  unfold tok flt
  rw [peer_of_none hdS, if_pos hdS]
  iintro ⟨#Hr, ⟨Ho, HA, ⟨⟨HtS, -, HaS⟩, HT⟩, HC, HD⟩, Hs, Hd⟩ Hk
  ihave HS := (records_dma m K c kS) $$ Hr
  icases HS with ⟨#HiS, #HrS⟩
  iapply (Rounds.wp_copy_pointsTo 𝒱₀ ER (Rd m) (c : Thread nD τ) none (κ := K (c, some kS)) (r := 0) (d := 0) (fd := fd)
    (by rw [duties_dma]; exact Finset.mem_singleton_self _) () (amt kS) (show dst.view.amount (.dma (enc kS)) = amt kS from hN) (amount_dma m c kS 0)
    (by rw [payload_dma]; exact hpay)) $$ [Hs Hd HtS]
  · isplitr; · iexact HiS
    isplitl [Hs]; · iexact Hs
    isplitl [Hd]; · iexact Hd
    isplitl [HtS]; · iexact HtS
    iexact HrS
  iintro Hc
  iapply Hk
  isplitl [Ho]; · iexact Ho
  isplitl [HA]; · iexact HA
  isplitl [HT]; · iexact HT
  isplitl [Hc HaS HC]
  · isplitl [Hc HaS]
    · isplitl [HaS] <;> iassumption
    iexact HC
  iexact HD

/-- Waiting for a copy: its semaphore is finished, and what it hands over is split into what stays
    with it and what is used further. -/
theorem step_wait {c : Dev nD} (k0 : Cl) {A T C D l : List Cl} (R : sProp 𝕄) {q : DmaSem sig}
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hq : q = enc k0) (hN : dst.view.dmaCredit = amt k0)
    (hl : ∀ k ∈ l, lvC k0 < lvC k)
    (hfin : pay m c k0 ⊢ iprop(fin m c k0 ∗ R)) :
    iprop(records m K ∗ flt c k0 ∗ core m c A T C D l)
      ⊢ iprop(((core m c A T C (k0 :: D) l ∗ R) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold core
  rw [seps_cons]
  unfold flt at0
  iintro ⟨#Hr, ⟨Ha, Hc⟩, ⟨%W, Ho⟩, HA, HT, HC, HD⟩ Hk
  ihave HS := (records_dma m K c k0) $$ Hr
  icases HS with ⟨#HiS, -⟩
  ihave #Hlev := (records_lev m K) $$ Hr
  iapply (Rounds.wp_wait_rest_token 𝒱₀ ER (Rd m) (c : Thread nD τ) none (κ := K (c, some k0))
      (wpE_waitDma2_eq 𝒱₀ (c : Thread nD τ) none Set.univ) (Set.mem_univ _) () (O := rest c l) (W := W) (R := 0) (m := 0) (T := ∅)
      (by rw [Nat.zero_add, expect_dma]; exact hN)) $$ [Hc Ho Ha]
  · isplitr; · iexact HiS
    isplitl [Hc]; · rw [hN]; iexact Hc
    isplitl [Ho]; · iexact Ho
    isplitr; · iapply (mayWait_rest c (.dma (enc k0)) (lvC k0) (le_of_eq (lv_dma c k0)) l hl); iexact Hlev
    iexact Ha
  iintro ⟨Ho, Ha, -, Hp⟩
  imod (Rounds.cell_close ER (Rd m) (Set.mem_univ (K (c, some k0))) (fun h => h) (R := 0 + 1) (duties_later m (dcell c k0))) $$ [Ha] with Hz
  · isplitr; · iexact HiS
    iexact Ha
  ihave Hp := (Entails.of_eq (rest_dma m c k0)) $$ Hp
  ihave Hp := hfin $$ Hp
  icases Hp with ⟨Hf, HR⟩
  iapply Hk
  isplitr [HR]
  · isplitl [Ho]; · iexists _; iexact Ho
    isplitl [HA]; · iexact HA
    isplitl [HT]; · iexact HT
    isplitl [HC]; · iexact HC
    isplitr [HD]
    · unfold done; isplitl [Hz] <;> iassumption
    iexact HD
  iexact HR

/-- Waiting for a copy whose memory is not used further. -/
theorem step_wait_keep {c : Dev nD} (k0 : Cl) {A T C D l : List Cl} {q : DmaSem sig}
    {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hq : q = enc k0) (hN : dst.view.dmaCredit = amt k0)
    (hl : ∀ k ∈ l, lvC k0 < lvC k)
    (hfin : pay m c k0 = fin m c k0) :
    iprop(records m K ∗ flt c k0 ∗ core m c A T C D l)
      ⊢ iprop((core m c A T C (k0 :: D) l -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#Hr, Hf, H⟩ Hk
  iapply (step_wait m K k0 iprop(emp) hq hN hl (by rw [hfin]; exact (sep_emp (PROP := sProp 𝕄)).2)) $$ [Hf H]
  · isplitr; · iexact Hr
    isplitl [Hf] <;> iassumption
  iintro ⟨H, -⟩
  iapply Hk; iexact H

/-! ## The barrier -/

/-- A unit to neighbour `j`'s barrier, with the places where that neighbour's copies to `c` land. -/
theorem step_signal {c n : Dev nD} (j : Fin 3) (hn : n = nbr j c) {O₁ : CellTallies nD τ sig Unit} (O : CellTallies nD τ sig Unit)
    (hO : O₁ = O + tallyAt (barCell (nbr j c)) () 1) {W : Waits sig Unit} {k' : ℕ} (hk : k' = 1)
    {α : Type} {Q : α → sProp 𝕄} {k : PUnit → Prog (TpuEff nD τ sig (Elt F) Λ₀ .tc) α} :
    iprop(records m K ∗ owes (c : Thread nD τ) O₁ W ∗ dutyTok ER (barCell (nbr j c)) 0 j ∗ bigSep Finset.univ (fun k => landAt (F := F) j c k))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  iintro ⟨#Hr, Ho, Ht, Hl⟩ Hk
  ihave HS := (records_bar m K (nbr j c)) $$ Hr
  icases HS with ⟨#HiB, #HrB⟩
  iapply (Rounds.wp_signal 𝒱₀ ER (Rd m) (c : Thread nD τ) none (dst := (nbr j c : Thread nD τ)) (κ := K (nbr j c, none))
      (d := j) (by rw [duties_bar]; exact Finset.mem_univ _) (amount_bar m (nbr j c) j) () O hO) $$ [Ho Ht Hl]
  · isplitr; · iexact HiB
    isplitl [Ho]; · iexact Ho
    isplitl [Ht]; · iexact Ht
    isplitl [Hl]
    · rw [payload_bar]; unfold barPay; rw [nbr_nbr]; iexact Hl
    iexact HrB
  iexact Hk

omit [FloatOps F] in
/-- What the three neighbours hand over is the landing place of every copy to another device. -/
theorem landings (c : Dev nD) : bigSep Finset.univ (fun j => barPay (F := F) c j) ⊢ bigSep Finset.univ (fun k => landing (F := F) (peer c k) k) := by
  unfold barPay
  rw [show (fun j : Fin 3 => bigSep Finset.univ fun k => landAt (F := F) j (nbr j c) k) = fun j => bigSep Finset.univ fun k => landAt (F := F) j (nbr j c) k from rfl,
    bigSep_univ_comm]
  refine bigSep_mono fun k _ => ?_
  unfold peer landAt
  cases h : dir k with
  | none =>
    have : landing (F := F) c k = iprop(emp) := by cases k <;> first | rfl | (exact absurd h (by simp [dir]))
    simp only [this]
    exact drop_all _
  | some j =>
    refine (fam_pick (Finset.mem_univ j) _).trans ?_
    rw [if_pos rfl]

/-- A device's copies, in the order it starts them. -/
abbrev sendOrder : List Cl :=
  [.xls, .p1s 0, .p1r 0, .p1s 1, .p1r 1, .p1s 2, .p1r 2, .p1s 3, .p1r 3, .dys 0, .dyr 0, .dzs 0, .dzr 0,
   .dys 1, .dyr 1, .dzs 1, .dzr 1, .dys 2, .dyr 2, .dzs 2, .dzr 2, .fys 0, .fyr 0, .dys 3, .dyr 3, .dzs 3, .dzr 3,
   .fys 1, .fyr 1, .sts, .fzs 0, .fzr 0, .fzs 1, .fzr 1]
/-- The copies a device receives, in the order it waits for them. -/
abbrev recvOrder : List Cl :=
  [.p1r 0, .p1r 1, .p1r 2, .dzr 0, .dyr 0, .p1r 3, .dzr 1, .dyr 1, .dzr 2, .dyr 2, .dzr 3, .dyr 3, .fyr 0, .fyr 1, .fzr 0, .fzr 1]

omit [FloatOps F] in
/-- What the semaphores hold at the start, sorted: by the copies to start and the copies to receive. -/
theorem sort_start (c : Dev nD) :
    iprop(bigSep Finset.univ (fun k => dutyTok ER (dcell (peer c k) k) 0 0) ∗ bigSep Finset.univ (fun k => landing (F := F) (peer c k) k)
        ∗ bigSep Finset.univ (at0 (F := F) c) ∗ seps (fun k => cred (tallyAt (dcell c k) () (amt k))) recvOrder)
      ⊢ iprop(seps (flt (F := F) c) recvOrder ∗ seps (tok c) sendOrder) := by
  have hu : ∀ Φ : Cl → sProp 𝕄, bigSep Finset.univ Φ = seps Φ sendOrder := fun Φ => by
    rw [← seps_eq Φ (by decide)]; congr 1; decide
  have hr : ∀ Φ : Cl → sProp 𝕄, bigSep recvOrder.toFinset Φ = seps Φ recvOrder := fun Φ => seps_eq Φ (by decide)
  have hS : recvOrder.toFinset = Finset.univ.filter fun k => ¬ dir k = none := by decide
  have ht : bigSep Finset.univ (tok (F := F) c) = iprop(bigSep Finset.univ (fun k => dutyTok ER (dcell (peer c k) k) 0 0)
      ∗ bigSep Finset.univ (fun k => landing (F := F) (peer c k) k) ∗ bigSep (Finset.univ.filter fun k => dir k = none) (at0 (F := F) c)) := by
    unfold tok
    rw [bigSep_sep', bigSep_sep', bigSep_filter]
    rfl
  have hf : bigSep recvOrder.toFinset (flt (F := F) c) = iprop(bigSep recvOrder.toFinset (at0 (F := F) c)
      ∗ bigSep recvOrder.toFinset fun k => cred (tallyAt (dcell c k) () (amt k))) := by
    unfold flt; rw [bigSep_sep']
  have ha : bigSep Finset.univ (at0 (F := F) c) = iprop(bigSep (Finset.univ.filter fun k => dir k = none) (at0 (F := F) c)
      ∗ bigSep recvOrder.toFinset (at0 (F := F) c)) := by
    rw [hS]; exact bigSep_filter_split _ _
  rw [← hr, ← hr, ← hu, ht, hf, ha]
  iintro ⟨HT, Hl, ⟨HS, HR⟩, HC⟩
  isplitl [HR HC]
  · isplitl [HR] <;> iassumption
  isplitl [HT]; · iexact HT
  isplitl [Hl] <;> iassumption

/-- Waiting on the own barrier: after it every copy to a neighbour has its place. -/
theorem step_barrier {c : Dev nD} {W : Waits sig Unit} {k' : ℕ} (hk : k' = 3)
    {α : Type} {Q : α → sProp 𝕄} {k : PUnit → Prog (TpuEff nD τ sig (Elt F) Λ₀ .tc) α} :
    iprop(records m K ∗ owes (c : Thread nD τ) (rest c order) W ∗ atPos ER (barCell c) 0 ∅ 0 ∗ cred (tallyAt (barCell c) () 3)
        ∗ bigSep Finset.univ (fun k => dutyTok ER (dcell (peer c k) k) 0 0) ∗ bigSep Finset.univ (at0 (F := F) c)
        ∗ seps (fun k => cred (tallyAt (dcell c k) () (amt k))) recvOrder)
      ⊢ iprop(((core m c recvOrder sendOrder [] [] order ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#Hr, Ho, Ha, Hc, HT, HA, HC⟩ Hk
  ihave HS := (records_bar m K c) $$ Hr
  icases HS with ⟨#HiB, -⟩
  ihave #Hlev := (records_lev m K) $$ Hr
  iapply (Rounds.wp_wait_rest_token 𝒱₀ ER (Rd m) (c : Thread nD τ) none (κ := K (c, none))
      (wpE_semWait_eq 𝒱₀ (c : Thread nD τ) none Set.univ) (Set.mem_univ _) () (O := rest c order) (W := W) (R := 0) (m := 0) (T := ∅)
      (by rw [expect_bar])) $$ [Hc Ho Ha]
  · isplitr; · iexact HiB
    isplitl [Hc]; · iexact Hc
    isplitl [Ho]; · iexact Ho
    isplitr; · iapply (mayWait_rest c (.reg barS) 1 (le_refl _) order (by decide)); iexact Hlev
    iexact Ha
  iintro ⟨Ho, Ha, -, Hp⟩
  imod (Rounds.cell_close ER (Rd m) (Set.mem_univ (K (c, none))) (fun h => h) (R := 0 + 1) (duties_later m (barCell c))) $$ [Ha] with Hz
  · isplitr; · iexact HiB
    iexact Ha
  ihave Hp := (Entails.of_eq (rest_bar m c)) $$ Hp
  ihave Hp := (landings c) $$ Hp
  ihave H := (sort_start c) $$ [HT Hp HA HC]
  · isplitl [HT]; · iexact HT
    isplitl [Hp]; · iexact Hp
    isplitl [HA] <;> iassumption
  icases H with ⟨HA, HT⟩
  iapply Hk
  unfold core
  isplitr [Hz]
  · isplitl [Ho]; · iexists _; iexact Ho
    isplitl [HA]; · iexact HA
    isplitl [HT]; · iexact HT
    isplitr <;> (unfold seps; iempintro)
  iexact Hz

end Cert.KernelIdealProof

end
-- ==== Proof.MovesKernelIdeal.lean ====
module

public import proofs.«01_k».proof.Proof.StepsKernelIdeal
public import Idealize.ShloMosaic.Lib.Pipeline.Value

@[expose] public section

/-! # The kernel's copies, loads and stores

Each family of copies of the kernel as one rule, with the rows it moves and the contents that land.
The offsets are variables here: the program computes them, and `hoff` says which rows they are. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Cl → ℕ)

/-! ## Contents that land -/

theorem read_p1 (c : Dev nD) (a : Fin 4) :
    (rC a).view.read (Elt F) (recvF m (nbr 0 c)) = (xC (qr c 0) a).view.read (Elt F) (X m c) := by
  funext j
  show X m (nbr 0 (nbr 0 c)) (lift (qr (nbr 0 c) 0) ((smallR a).emb j)) = X m c ((bigR (qr c 0) a).emb j)
  rw [nbr_nbr, (qr_nbr c 0).1, bigR_emb]
theorem read_dir (c : Dev nD) (a : Fin 4) :
    (oC (qr c 0) a).view.read (Elt F) (outF m c) = (rC a).view.read (Elt F) (sumR m c) := by
  funext j
  show outF m c ((bigR (qr c 0) a).emb j) = outF m c (lift (qr c 0) ((smallR a).emb j))
  rw [bigR_emb]
theorem read_xl (c : Dev nD) :
    (qB : Memref sig .tc .vmem S4096x1024 .f32).view.read (Elt F) (xqF m c) = (xQ (qr c 0)).view.read (Elt F) (X m c) := rfl
theorem read_st (c : Dev nD) :
    (oQ (qr c 0)).view.read (Elt F) (outF m c) = (rB : Memref sig .tc .vmem S4096x1024 .f32).view.read (Elt F) (sumR m c) := rfl

theorem qr_y0 (c : Dev nD) : qr (nbr 1 c) 2 = qr c 0 := by revert c; decide
theorem qr_z0 (c : Dev nD) : qr (nbr 2 c) 1 = qr c 0 := by revert c; decide
theorem qr_y1 (c : Dev nD) : qr (nbr 1 c) 3 = qr c 1 := by revert c; decide
theorem qr_z2 (c : Dev nD) : qr (nbr 2 c) 3 = qr c 2 := by revert c; decide

/-! ## Sends -/

/-- A chunk of the argument to the `x` neighbour's receive buffer. -/
theorem send_p1 {c n : Dev nD} (a : Fin 4) (hn : n = nbr 0 c) {A T C D l : List Cl} {sS sR : SemLoc sig}
    (hsS : sS = .dma (enc (.p1s a))) (hsR : sR = .dma (enc (.p1r a)))
    {off : Fin 2 → ℕ} (hoff : off = ![4096 * (qr c 0).val + 1024 * a.val, 0]) {inb : ∀ i, off i + S1024x1024.size i ≤ S16384x1024.size i}
    {off' : Fin 2 → ℕ} (hoff' : off' = ![1024 * a.val, 0]) {inb' : ∀ i, off' i + S1024x1024.size i ≤ S4096x1024.size i}
    {hsc} {hsrc} {hdst} {hsem}
    {α : Type} {Q : α → sProp 𝕄} {k : PUnit → Prog (TpuEff nD τ sig (Elt F) Λ₀ .tc) α} :
    iprop(records m K ∗ core m c A (.p1s a :: .p1r a :: T) C D (.p1r a :: l) ∗ xPts c (qr c 0) a sRt (X m c))
      ⊢ iprop((core m c A T (.p1s a :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xB.slice (Rect.unit (s := S16384x1024) off S1024x1024.size inb) (fun _ => rfl))
                (.remote (Dev.tc n : Thread nD τ) (rB.slice (Rect.unit (s := S4096x1024) off' S1024x1024.size inb') (fun _ => rfl)) sS hsc) sR hsrc hdst hsem) k) Q) := by
  subst hoff hoff'
  exact step_send m K (.p1s a) (.p1r a) hn hsS hsR rfl rfl rfl rfl (Entails.of_eq rfl) (Entails.of_eq rfl)
    (fun fd => Entails.of_eq (pointsTo_congr (landed (rC a).view fd (recvF m (nbr 0 c)) _ (read_p1 m c a))))

/-- A summed chunk to a neighbour's result. -/
theorem send_dir {c n : Dev nD} {j : Fin 3} (kS kR : Cl) (a : Fin 4) {sh : PosShare TreeShare} (hn : n = nbr j c)
    {A T C D l : List Cl} {sS sR : SemLoc sig} (hsS : sS = .dma (enc kS)) (hsR : sR = .dma (enc kR))
    {off : Fin 2 → ℕ} (hoff : off = ![4096 * (qr c 0).val + 1024 * a.val, 0]) {inb : ∀ i, off i + S1024x1024.size i ≤ S16384x1024.size i}
    {off' : Fin 2 → ℕ} (hoff' : off' = ![1024 * a.val, 0]) {inb' : ∀ i, off' i + S1024x1024.size i ≤ S4096x1024.size i}
    {hsc} {hsrc} {hdst} {hsem}
    {α : Type} {Q : α → sProp 𝕄} {k : PUnit → Prog (TpuEff nD τ sig (Elt F) Λ₀ .tc) α}
    (hdS : dir kS = none) (hdR : dir kR = some j) (hN : (oC 0 0).view.dmaCredit = amt kR) (hNS : amt kS = amt kR)
    (hp₁ : pay m c kS = rPts c a sh (sumR m c))
    (hld : landing (F := F) (nbr j c) kR = iprop(∃ f, oPts (nbr j c) (qr c 0) a f))
    (hp₂ : pay m (nbr j c) kR = oPts (nbr j c) (qr c 0) a (outF m c)) :
    iprop(records m K ∗ core m c A (kS :: kR :: T) C D (kR :: l) ∗ rPts c a sh (sumR m c))
      ⊢ iprop((core m c A T (kS :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rB.slice (Rect.unit (s := S4096x1024) off' S1024x1024.size inb') (fun _ => rfl))
                (.remote (Dev.tc n : Thread nD τ) (oB.slice (Rect.unit (s := S16384x1024) off S1024x1024.size inb) (fun _ => rfl)) sS hsc) sR hsrc hdst hsem) k) Q) := by
  subst hoff hoff'
  exact step_send m K kS kR hn hsS hsR hdS hdR hN hNS (Entails.of_eq hp₁.symm) (Entails.of_eq hld)
    (fun fd => Entails.of_eq ((pointsTo_congr (landed (oC (qr c 0) a).view fd (outF m c) _ (read_dir m c a))).trans hp₂.symm))

/-- A summed chunk to the `y` neighbour. -/
theorem send_dy {c n : Dev nD} (a : Fin 4) (hn : n = nbr 1 c) {A T C D l : List Cl} {sS sR : SemLoc sig}
    (hsS : sS = .dma (enc (.dys a))) (hsR : sR = .dma (enc (.dyr a)))
    {off : Fin 2 → ℕ} (hoff : off = ![4096 * (qr c 0).val + 1024 * a.val, 0]) {inb : ∀ i, off i + S1024x1024.size i ≤ S16384x1024.size i}
    {off' : Fin 2 → ℕ} (hoff' : off' = ![1024 * a.val, 0]) {inb' : ∀ i, off' i + S1024x1024.size i ≤ S4096x1024.size i}
    {hsc} {hsrc} {hdst} {hsem}
    {α : Type} {Q : α → sProp 𝕄} {k : PUnit → Prog (TpuEff nD τ sig (Elt F) Λ₀ .tc) α} :
    iprop(records m K ∗ core m c A (.dys a :: .dyr a :: T) C D (.dyr a :: l) ∗ rPts c a sL (sumR m c))
      ⊢ iprop((core m c A T (.dys a :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rB.slice (Rect.unit (s := S4096x1024) off' S1024x1024.size inb') (fun _ => rfl))
                (.remote (Dev.tc n : Thread nD τ) (oB.slice (Rect.unit (s := S16384x1024) off S1024x1024.size inb) (fun _ => rfl)) sS hsc) sR hsrc hdst hsem) k) Q) :=
  send_dir m K (.dys a) (.dyr a) a hn hsS hsR hoff hoff' rfl rfl rfl rfl rfl
    (by unfold landing; rw [qr_y0]) (by unfold pay; rw [qr_y0, outF_y])

/-- A summed chunk to the `z` neighbour. -/
theorem send_dz {c n : Dev nD} (a : Fin 4) (hn : n = nbr 2 c) {A T C D l : List Cl} {sS sR : SemLoc sig}
    (hsS : sS = .dma (enc (.dzs a))) (hsR : sR = .dma (enc (.dzr a)))
    {off : Fin 2 → ℕ} (hoff : off = ![4096 * (qr c 0).val + 1024 * a.val, 0]) {inb : ∀ i, off i + S1024x1024.size i ≤ S16384x1024.size i}
    {off' : Fin 2 → ℕ} (hoff' : off' = ![1024 * a.val, 0]) {inb' : ∀ i, off' i + S1024x1024.size i ≤ S4096x1024.size i}
    {hsc} {hsrc} {hdst} {hsem}
    {α : Type} {Q : α → sProp 𝕄} {k : PUnit → Prog (TpuEff nD τ sig (Elt F) Λ₀ .tc) α} :
    iprop(records m K ∗ core m c A (.dzs a :: .dzr a :: T) C D (.dzr a :: l) ∗ rPts c a sRL (sumR m c))
      ⊢ iprop((core m c A T (.dzs a :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rB.slice (Rect.unit (s := S4096x1024) off' S1024x1024.size inb') (fun _ => rfl))
                (.remote (Dev.tc n : Thread nD τ) (oB.slice (Rect.unit (s := S16384x1024) off S1024x1024.size inb) (fun _ => rfl)) sS hsc) sR hsrc hdst hsem) k) Q) :=
  send_dir m K (.dzs a) (.dzr a) a hn hsS hsR hoff hoff' rfl rfl rfl rfl rfl
    (by unfold landing; rw [qr_z0]) (by unfold pay; rw [qr_z0, outF_z])

/-- A received chunk of the result passed on to another neighbour, at the same rows. -/
theorem send_fwd {c n : Dev nD} {j : Fin 3} (kS kR : Cl) (q a : Fin 4) (hn : n = nbr j c)
    {A T C D l : List Cl} {sS sR : SemLoc sig} (hsS : sS = .dma (enc kS)) (hsR : sR = .dma (enc kR))
    {off : Fin 2 → ℕ} (hoff : off = ![4096 * q.val + 1024 * a.val, 0]) {inb : ∀ i, off i + S1024x1024.size i ≤ S16384x1024.size i}
    {hsc} {hsrc} {hdst} {hsem}
    {α : Type} {Q : α → sProp 𝕄} {k : PUnit → Prog (TpuEff nD τ sig (Elt F) Λ₀ .tc) α}
    (hdS : dir kS = none) (hdR : dir kR = some j) (hN : (oC 0 0).view.dmaCredit = amt kR) (hNS : amt kS = amt kR)
    (hp₁ : pay m c kS = oPts c q a (outF m c))
    (hld : landing (F := F) (nbr j c) kR = iprop(∃ f, oPts (nbr j c) q a f))
    (hp₂ : pay m (nbr j c) kR = oPts (nbr j c) q a (outF m c)) :
    iprop(records m K ∗ core m c A (kS :: kR :: T) C D (kR :: l) ∗ oPts c q a (outF m c))
      ⊢ iprop((core m c A T (kS :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oB.slice (Rect.unit (s := S16384x1024) off S1024x1024.size inb) (fun _ => rfl))
                (.remote (Dev.tc n : Thread nD τ) (oB.slice (Rect.unit (s := S16384x1024) off S1024x1024.size inb) (fun _ => rfl)) sS hsc) sR hsrc hdst hsem) k) Q) := by
  subst hoff
  exact step_send m K kS kR hn hsS hsR hdS hdR hN hNS (Entails.of_eq hp₁.symm) (Entails.of_eq hld)
    (fun fd => Entails.of_eq ((pointsTo_congr (landed (oC q a).view fd (outF m c) _ rfl)).trans hp₂.symm))

/-- A chunk received along `z` passed on along `y`. -/
theorem send_fy {c n : Dev nD} (i : Fin 2) (hn : n = nbr 1 c) {A T C D l : List Cl} {sS sR : SemLoc sig}
    (hsS : sS = .dma (enc (.fys i))) (hsR : sR = .dma (enc (.fyr i)))
    {off : Fin 2 → ℕ} (hoff : off = ![4096 * (qr c 1).val + 1024 * (lo i).val, 0]) {inb : ∀ i, off i + S1024x1024.size i ≤ S16384x1024.size i}
    {hsc} {hsrc} {hdst} {hsem}
    {α : Type} {Q : α → sProp 𝕄} {k : PUnit → Prog (TpuEff nD τ sig (Elt F) Λ₀ .tc) α} :
    iprop(records m K ∗ core m c A (.fys i :: .fyr i :: T) C D (.fyr i :: l) ∗ oPts c (qr c 1) (lo i) (outF m c))
      ⊢ iprop((core m c A T (.fys i :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oB.slice (Rect.unit (s := S16384x1024) off S1024x1024.size inb) (fun _ => rfl))
                (.remote (Dev.tc n : Thread nD τ) (oB.slice (Rect.unit (s := S16384x1024) off S1024x1024.size inb) (fun _ => rfl)) sS hsc) sR hsrc hdst hsem) k) Q) :=
  send_fwd m K (.fys i) (.fyr i) (qr c 1) (lo i) hn hsS hsR hoff rfl rfl rfl rfl rfl
    (by unfold landing; rw [qr_y1]) (by unfold pay; rw [qr_y1, outF_y])

/-- A chunk received along `y` passed on along `z`. -/
theorem send_fz {c n : Dev nD} (i : Fin 2) (hn : n = nbr 2 c) {A T C D l : List Cl} {sS sR : SemLoc sig}
    (hsS : sS = .dma (enc (.fzs i))) (hsR : sR = .dma (enc (.fzr i)))
    {off : Fin 2 → ℕ} (hoff : off = ![4096 * (qr c 2).val + 1024 * (hi i).val, 0]) {inb : ∀ i, off i + S1024x1024.size i ≤ S16384x1024.size i}
    {hsc} {hsrc} {hdst} {hsem}
    {α : Type} {Q : α → sProp 𝕄} {k : PUnit → Prog (TpuEff nD τ sig (Elt F) Λ₀ .tc) α} :
    iprop(records m K ∗ core m c A (.fzs i :: .fzr i :: T) C D (.fzr i :: l) ∗ oPts c (qr c 2) (hi i) (outF m c))
      ⊢ iprop((core m c A T (.fzs i :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oB.slice (Rect.unit (s := S16384x1024) off S1024x1024.size inb) (fun _ => rfl))
                (.remote (Dev.tc n : Thread nD τ) (oB.slice (Rect.unit (s := S16384x1024) off S1024x1024.size inb) (fun _ => rfl)) sS hsc) sR hsrc hdst hsem) k) Q) :=
  send_fwd m K (.fzs i) (.fzr i) (qr c 2) (hi i) hn hsS hsR hoff rfl rfl rfl rfl rfl
    (by unfold landing; rw [qr_z2]) (by unfold pay; rw [qr_z2, outF_z])

/-! ## Copies within the device -/

/-- The own argument quarter into its buffer. -/
theorem copy_xl {c : Dev nD} {A T C D l : List Cl} {sS : SemLoc sig} (hsS : sS = .dma (enc .xls))
    {off : Fin 2 → ℕ} (hoff : off = ![4096 * (qr c 0).val, 0]) {inb : ∀ i, off i + S4096x1024.size i ≤ S16384x1024.size i}
    {hsrc} {hdst} {hsem}
    {α : Type} {Q : α → sProp 𝕄} {k : PUnit → Prog (TpuEff nD τ sig (Elt F) Λ₀ .tc) α} {f : S4096x1024.Idx → Elt F .f32} :
    iprop(records m K ∗ core m c A (.xls :: T) C D l ∗ xqPts c (qr c 0) sL (X m c) ∗ qwPts c f)
      ⊢ iprop((core m c A T (.xls :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xB.slice (Rect.unit (s := S16384x1024) off S4096x1024.size inb) (fun _ => rfl)) (.here qB) sS hsrc hdst hsem) k) Q) := by
  subst hoff
  refine step_copy m K .xls hsS rfl rfl ?_
  unfold pay
  exact sep_mono_left (Entails.of_eq (pointsTo_congr (landed (qB : Memref sig .tc .vmem S4096x1024 .f32).view f (xqF m c) _ (read_xl m c))))

/-- The summed quarter into the own result. -/
theorem copy_st {c : Dev nD} {A T C D l : List Cl} {sS : SemLoc sig} (hsS : sS = .dma (enc .sts))
    {off : Fin 2 → ℕ} (hoff : off = ![4096 * (qr c 0).val, 0]) {inb : ∀ i, off i + S4096x1024.size i ≤ S16384x1024.size i}
    {hsrc} {hdst} {hsem}
    {α : Type} {Q : α → sProp 𝕄} {k : PUnit → Prog (TpuEff nD τ sig (Elt F) Λ₀ .tc) α} {f : S16384x1024.Idx → Elt F .f32} :
    iprop(records m K ∗ core m c A (.sts :: T) C D l ∗ rwPts c sRR (sumR m c) ∗ oqPts c (qr c 0) f)
      ⊢ iprop((core m c A T (.sts :: C) D l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rB (.here (oB.slice (Rect.unit (s := S16384x1024) off S4096x1024.size inb) (fun _ => rfl))) sS hsrc hdst hsem) k) Q) := by
  subst hoff
  refine step_copy m K .sts hsS rfl rfl ?_
  unfold pay
  exact sep_mono_left (Entails.of_eq (pointsTo_congr (landed (oQ (qr c 0)).view f (outF m c) _ (read_st m c))))

/-! ## The sum of a chunk -/

/-- Loading chunk `a` of the receive buffer. -/
theorem load_r {c : Dev nD} (a : Fin 4) {sh : PosShare TreeShare} {f : S4096x1024.Idx → Elt F .f32}
    {off : Fin 2 → ℕ} (hoff : off = ![1024 * a.val, 0]) {inb : ∀ i, off i + S1024x1024.size i ≤ S4096x1024.size i} {hl}
    {α : Type} {Q : α → sProp 𝕄} {k : (S1024x1024.Idx → Elt F .f32) → Prog (TpuEff nD τ sig (Elt F) Λ₀ .tc) α} :
    rPts c a sh f
      ⊢ iprop((rPts c a sh f -∗ wp frame (wpE (defs₀ (F := F)) 𝒱₀ (c : Thread nD τ) none) Set.univ (k fun j => f ((smallR a).emb j)) Q)
          -∗ wp frame (wpE (defs₀ (F := F)) 𝒱₀ (c : Thread nD τ) none) Set.univ
              (.op (.load rB (Rect.unit (s := S4096x1024) off S1024x1024.size inb).toLoadRect hl) k) Q) := by
  subst hoff
  exact wp_load_rect 𝒱₀ (c : Thread nD τ) none Set.univ (Finset.Subset.refl _)

/-- Loading chunk `a` of the own argument's buffer. -/
theorem load_q {c : Dev nD} (a : Fin 4) {f : S4096x1024.Idx → Elt F .f32}
    {off : Fin 2 → ℕ} (hoff : off = ![1024 * a.val, 0]) {inb : ∀ i, off i + S1024x1024.size i ≤ S4096x1024.size i} {hl}
    {α : Type} {Q : α → sProp 𝕄} {k : (S1024x1024.Idx → Elt F .f32) → Prog (TpuEff nD τ sig (Elt F) Λ₀ .tc) α} :
    qwPts c f
      ⊢ iprop((qwPts c f -∗ wp frame (wpE (defs₀ (F := F)) 𝒱₀ (c : Thread nD τ) none) Set.univ (k fun j => f ((smallR a).emb j)) Q)
          -∗ wp frame (wpE (defs₀ (F := F)) 𝒱₀ (c : Thread nD τ) none) Set.univ
              (.op (.load qB (Rect.unit (s := S4096x1024) off S1024x1024.size inb).toLoadRect hl) k) Q) := by
  subst hoff
  unfold qwPts
  iintro H Hk
  iapply (wp_load 𝒱₀ (c : Thread nD τ) none Set.univ (m := qB) (View.setOn_subset_set _ _)) $$ [H]
  · iexact H
  iintro H
  iapply Hk; iexact H

/-- Storing chunk `a` of the receive buffer. -/
theorem store_r {c : Dev nD} (a : Fin 4) {f : S4096x1024.Idx → Elt F .f32} (g : S4096x1024.Idx → Elt F .f32)
    {off : Fin 2 → ℕ} (hoff : off = ![1024 * a.val, 0]) {inb : ∀ i, off i + S1024x1024.size i ≤ S4096x1024.size i} {hx} {hm}
    {w : S1024x1024.Idx → Elt F .f32} (hw : (fun j => g ((smallR a).emb j)) = w)
    {α : Type} {Q : α → sProp 𝕄} {k : PUnit → Prog (TpuEff nD τ sig (Elt F) Λ₀ .tc) α} :
    rPts c a fullShare f
      ⊢ iprop((rPts c a fullShare g -∗ wp frame (wpE (defs₀ (F := F)) 𝒱₀ (c : Thread nD τ) none) Set.univ (k ⟨⟩) Q)
          -∗ wp frame (wpE (defs₀ (F := F)) 𝒱₀ (c : Thread nD τ) none) Set.univ
              (.op (.store rB (Rect.unit (s := S4096x1024) off S1024x1024.size inb) w Finset.univ hx hm) k) Q) := by
  subst hoff
  have h : rPts (F := F) c a fullShare g = ((rB : Memref sig .tc .vmem S4096x1024 .f32).access (smallR a)).loc (c : Thread nD τ)
      ↦[(rC a).view.set]{fullShare} (((rB : Memref sig .tc .vmem S4096x1024 .f32).access (smallR a)).write (Elt F) f w Finset.univ) :=
    (pointsTo_congr (landed (rC a).view f g w hw)).symm
  rw [h]
  exact wp_store 𝒱₀ (c : Thread nD τ) none Set.univ (Finset.Subset.refl _)

/-- The sum stored over a received chunk. -/
theorem sum_chunk (c : Dev nD) (a : Fin 4) :
    (fun j => sumR m c ((smallR a).emb j)) = k0_pay1 (fun j => recvF m c ((smallR a).emb j)) (fun j => xqF m c ((smallR a).emb j)) := by
  funext j
  unfold k0_pay1
  rw [shapeCast_self, sumR_eq]
  rfl

/-! ## Waits -/

/-- Waiting for the next copy received, whose memory is used further. -/
theorem recv_use {c : Dev nD} (k0 : Cl) {A T C D : List Cl} (l : List Cl) (R : sProp 𝕄)
    {q : DmaSem sig} {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hq : q = enc k0) (hN : dst.view.dmaCredit = amt k0) (hl : ∀ k ∈ l, lvC k0 < lvC k) (hf : fin m c k0 = iprop(emp)) (hR : pay m c k0 = R) :
    iprop(records m K ∗ core m c (k0 :: A) T C D l)
      ⊢ iprop(((core m c A T C (k0 :: D) l ∗ R) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#Hr, H⟩
  ihave H := (core_take_A m c k0 A T C D l) $$ H
  icases H with ⟨Hf, H⟩
  iapply (step_wait m K k0 R hq hN hl (by rw [hf, hR]; exact (emp_sep (PROP := sProp 𝕄)).2))
  isplitr; · iexact Hr
  isplitl [Hf] <;> iassumption

/-- Waiting for the next copy received, whose memory is finished. -/
theorem recv_keep {c : Dev nD} (k0 : Cl) {A T C D : List Cl} (l : List Cl)
    {q : DmaSem sig} {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hq : q = enc k0) (hN : dst.view.dmaCredit = amt k0) (hl : ∀ k ∈ l, lvC k0 < lvC k) (hf : pay m c k0 = fin m c k0) :
    iprop(records m K ∗ core m c (k0 :: A) T C D l)
      ⊢ iprop((core m c A T C (k0 :: D) l -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#Hr, H⟩
  ihave H := (core_take_A m c k0 A T C D l) $$ H
  icases H with ⟨Hf, H⟩
  iapply (step_wait_keep m K k0 hq hN hl hf)
  isplitr; · iexact Hr
  isplitl [Hf] <;> iassumption

/-- Waiting, with nothing owed, for the next copy sent. -/
theorem sent {c : Dev nD} (k0 : Cl) {A T C D : List Cl}
    {q : DmaSem sig} {sp sp' : Space} {s s' : Shape} {e e' : EltTy} {src : Memref sig .tc sp' s' e'} {dst : Memref sig .tc sp s e}
    {hsrc : src.view.WordExact} {hdst : dst.view.WordExact}
    {α : Type} {Q : α → sProp 𝕄} {k : PUnit → Prog (TpuEff nD τ sig (Elt F) Λ₀ .tc) α}
    (hq : q = enc k0) (hN : dst.view.dmaCredit = amt k0) (hf : pay m c k0 = fin m c k0) :
    iprop(records m K ∗ core m c A T (k0 :: C) D [])
      ⊢ iprop((core m c A T C (k0 :: D) [] -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#Hr, H⟩
  ihave H := (core_take_C m c k0 A T C D []) $$ H
  icases H with ⟨Hf, H⟩
  iapply (step_wait_keep m K k0 hq hN (fun _ h => absurd h List.not_mem_nil) hf)
  isplitr; · iexact Hr
  isplitl [Hf] <;> iassumption

end Cert.KernelIdealProof

end
-- ==== Proof.MemoryKernelIdeal.lean ====
module

public import proofs.«01_k».proof.Proof.MovesKernelIdeal

@[expose] public section

/-! # A device's memory, in parts and put together

At the start the arrays are cut into the parts the copies move; at the end the parts, as the
semaphores gave them back, are the whole arrays again. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Parts
omit [FloatOps F]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Memory held on a set is the memory held on the disjoint parts that cover it. -/
theorem pts_parts {ℓ : Loc nD τ sig} {q : PosShare TreeShare} {f : Buf (Elt F) ℓ} (S : Finset (Idx ℓ)) (P : Fin 4 → Finset (Idx ℓ))
    (hS : ∀ i, i ∈ S ↔ ∃ t, i ∈ P t) (h : ∀ t ∈ Finset.univ, ∀ t' ∈ Finset.univ, t ≠ t' → Disjoint (P t) (P t')) :
    (ℓ ↦[S]{q} f : sProp 𝕄) = bigSep Finset.univ fun t => ℓ ↦[P t]{q} f := by
  have e : S = Finset.univ.biUnion P := by
    ext i; rw [hS, Finset.mem_biUnion]; exact ⟨fun ⟨t, ht⟩ => ⟨t, Finset.mem_univ _, ht⟩, fun ⟨t, _, ht⟩ => ⟨t, ht⟩⟩
  rw [e]; exact pointsTo_biUnion _ _ h
theorem mem_parts {I T : Type} [DecidableEq I] [Fintype T] {S : Finset I} {P : T → Finset I} (h : S = Finset.univ.biUnion P) (i : I) :
    i ∈ S ↔ ∃ t, i ∈ P t := by
  rw [h, Finset.mem_biUnion]; exact ⟨fun ⟨t, _, ht⟩ => ⟨t, ht⟩, fun ⟨t, ht⟩ => ⟨t, Finset.mem_univ _, ht⟩⟩

/-- The whole argument of device `c`. -/
def xwPts (c : Dev nD) (f : S16384x1024.Idx → Elt F .f32) : sProp 𝕄 := ((c : Thread nD τ).loc main_arg0) ↦{fullShare} f
/-- The whole result of device `c`. -/
def owPts (c : Dev nD) (f : S16384x1024.Idx → Elt F .f32) : sProp 𝕄 := ((c : Thread nD τ).loc main_v1) ↦{fullShare} f
/-- The argument's rows off the own quarter. -/
def xrPts (c : Dev nD) (f : S16384x1024.Idx → Elt F .f32) : sProp 𝕄 :=
  ((c : Thread nD τ).loc main_arg0) ↦[Finset.univ \ (quarterR (qr c 0)).set]{fullShare} f

theorem xPts_eq (c : Dev nD) (q a : Fin 4) (s : PosShare TreeShare) (f : S16384x1024.Idx → Elt F .f32) :
    xPts c q a s f = (((c : Thread nD τ).loc main_arg0) ↦[(bigR q a).set]{s} f) := by unfold xPts; rw [xC_set]
theorem oPts_eq (c : Dev nD) (q a : Fin 4) (f : S16384x1024.Idx → Elt F .f32) :
    oPts c q a f = (((c : Thread nD τ).loc main_v1) ↦[(bigR q a).set]{fullShare} f) := by unfold oPts; rw [oC_set]
theorem oqPts_eq (c : Dev nD) (q : Fin 4) (f : S16384x1024.Idx → Elt F .f32) :
    oqPts c q f = (((c : Thread nD τ).loc main_v1) ↦[(quarterR q).set]{fullShare} f) := by unfold oqPts; rw [oQ_set]
theorem rPts_eq (c : Dev nD) (a : Fin 4) (s : PosShare TreeShare) (f : S4096x1024.Idx → Elt F .f32) :
    rPts c a s f = (((c : Thread nD τ).loc cc0_scratch0) ↦[(smallR a).set]{s} f) := by unfold rPts; rw [rC_set]

/-- A quarter of the argument is its four chunks. -/
theorem xq_chunks (c : Dev nD) (q : Fin 4) (s : PosShare TreeShare) (f : S16384x1024.Idx → Elt F .f32) :
    xqPts c q s f = iprop(xPts c q 0 s f ∗ xPts c q 1 s f ∗ xPts c q 2 s f ∗ xPts c q 3 s f) := by
  rw [← bigSep_four fun a => xPts c q a s f]
  simp only [xPts_eq]
  unfold xqPts
  rw [xQ_set]
  exact pts_parts (ℓ := (c : Thread nD τ).loc main_arg0) (quarterR q).set (fun a => (bigR q a).set) (mem_parts (I := S16384x1024.Idx) (quarter_union q)) (big_disjoint q)
/-- A quarter of the result is its four chunks. -/
theorem oq_chunks (c : Dev nD) (q : Fin 4) (f : S16384x1024.Idx → Elt F .f32) :
    oqPts c q f = iprop(oPts c q 0 f ∗ oPts c q 1 f ∗ oPts c q 2 f ∗ oPts c q 3 f) := by
  rw [← bigSep_four fun a => oPts c q a f]
  simp only [oPts_eq]
  rw [oqPts_eq]
  exact pts_parts (ℓ := (c : Thread nD τ).loc main_v1) (quarterR q).set (fun a => (bigR q a).set) (mem_parts (I := S16384x1024.Idx) (quarter_union q)) (big_disjoint q)
/-- The receive buffer is its four chunks. -/
theorem rw_chunks (c : Dev nD) (s : PosShare TreeShare) (f : S4096x1024.Idx → Elt F .f32) :
    rwPts c s f = iprop(rPts c 0 s f ∗ rPts c 1 s f ∗ rPts c 2 s f ∗ rPts c 3 s f) := by
  rw [← bigSep_four fun a => rPts c a s f]
  simp only [rPts_eq]
  unfold rwPts
  rw [View.set_whole]
  exact pts_parts (ℓ := (c : Thread nD τ).loc cc0_scratch0) Finset.univ (fun a => (smallR a).set) (mem_parts (I := S4096x1024.Idx) small_union) small_disjoint

/-- The masks of a device reach every quarter once. -/
def qrEquiv (c : Dev nD) : Fin 4 ≃ Fin 4 where
  toFun := qr c
  invFun := qr c
  left_inv := by revert c; decide
  right_inv := by revert c; decide

/-- The result is its four quarters. -/
theorem ow_quarters (c : Dev nD) (f : S16384x1024.Idx → Elt F .f32) :
    owPts c f = iprop(oqPts c (qr c 0) f ∗ oqPts c (qr c 1) f ∗ oqPts c (qr c 2) f ∗ oqPts c (qr c 3) f) := by
  rw [← bigSep_four fun k => oqPts c (qr c k) f]
  rw [show (bigSep Finset.univ fun k => oqPts c (qr c k) f) = bigSep Finset.univ fun q => oqPts c q f from
    (bigSep_univ_equiv (qrEquiv c) fun q => oqPts c q f).symm]
  simp only [oqPts_eq]
  unfold owPts
  exact pts_parts (ℓ := (c : Thread nD τ).loc main_v1) Finset.univ (fun q => (quarterR q).set) (mem_parts (I := S16384x1024.Idx) whole_union) quarter_disjoint

/-- The argument is the other rows and two shares of the own quarter. -/
theorem xw_parts (c : Dev nD) (f : S16384x1024.Idx → Elt F .f32) :
    xwPts c f ⊣⊢ iprop(xrPts c f ∗ xqPts c (qr c 0) sL f ∗ xqPts c (qr c 0) sRt f) := by
  have h1 : xwPts c f ⊣⊢ iprop((((c : Thread nD τ).loc main_arg0) ↦[(quarterR (qr c 0)).set]{fullShare} f) ∗ xrPts c f) :=
    pointsTo_split_subset (Finset.subset_univ _)
  have h2 : (((c : Thread nD τ).loc main_arg0) ↦[(quarterR (qr c 0)).set]{fullShare} f : sProp 𝕄)
      ⊣⊢ iprop(xqPts c (qr c 0) sL f ∗ xqPts c (qr c 0) sRt f) := by
    unfold xqPts; rw [xQ_set]
    exact pointsTo_share (PosShare.mem_left_op_right _)
  constructor
  · iintro H
    ihave H := h1.1 $$ H
    icases H with ⟨Hq, Hr⟩
    ihave Hq := h2.1 $$ Hq
    isplitl [Hr] <;> iassumption
  · iintro ⟨Hr, Hq⟩
    ihave Hq := h2.2 $$ Hq
    iapply h1.2
    isplitl [Hq] <;> iassumption

/-- A chunk of the receive buffer in the three shares its three readers take. -/
theorem r_shares (c : Dev nD) (a : Fin 4) (f : S4096x1024.Idx → Elt F .f32) :
    rPts c a fullShare f ⊣⊢ iprop(rPts c a sL f ∗ rPts c a sRL f ∗ rPts c a sRR f) := by
  have h1 : rPts c a fullShare f ⊣⊢ iprop(rPts c a sL f ∗ rPts c a fullShare.right f) := pointsTo_share (PosShare.mem_left_op_right _)
  have h2 : rPts c a fullShare.right f ⊣⊢ iprop(rPts c a sRL f ∗ rPts c a sRR f) := pointsTo_share (PosShare.mem_left_op_right _)
  constructor
  · iintro H
    ihave H := h1.1 $$ H
    icases H with ⟨HL, H⟩
    ihave H := h2.1 $$ H
    isplitl [HL] <;> iassumption
  · iintro ⟨HL, H⟩
    ihave H := h2.2 $$ H
    iapply h1.2
    isplitl [HL] <;> iassumption

/-! ## What is handed to the neighbours -/

theorem landAt_list (j : Fin 3) (c : Dev nD) (l : List Cl) (hl : l.Nodup) (h : l.toFinset = Finset.univ.filter fun k => dir k = some j) :
    seps (landing (F := F) c) l ⊢ bigSep Finset.univ fun k => landAt j c k := by
  unfold landAt
  rw [← seps_eq _ hl, h, bigSep_filter]
  exact Entails.refl _

/-- To the `x` neighbour, the receive buffer. -/
theorem give_x (c : Dev nD) (f : S4096x1024.Idx → Elt F .f32) : rwPts c fullShare f ⊢ bigSep Finset.univ fun k => landAt (F := F) 0 c k := by
  rw [rw_chunks]
  iintro ⟨H0, H1, H2, H3⟩
  iapply (landAt_list 0 c [.p1r 0, .p1r 1, .p1r 2, .p1r 3] (by decide) (by decide))
  unfold seps seps seps seps seps landing
  isplitl [H0]; · iexists f; iexact H0
  isplitl [H1]; · iexists f; iexact H1
  isplitl [H2]; · iexists f; iexact H2
  isplitl [H3]; · iexists f; iexact H3
  iempintro

/-- To the `y` neighbour, the quarter it owns and the first half of the opposite corner's. -/
theorem give_y (c : Dev nD) (f : S16384x1024.Idx → Elt F .f32) :
    iprop(oqPts c (qr c 2) f ∗ oPts c (qr c 3) 0 f ∗ oPts c (qr c 3) 1 f) ⊢ bigSep Finset.univ fun k => landAt (F := F) 1 c k := by
  rw [oq_chunks]
  iintro ⟨⟨H0, H1, H2, H3⟩, H4, H5⟩
  iapply (landAt_list 1 c [.dyr 0, .dyr 1, .dyr 2, .dyr 3, .fyr 0, .fyr 1] (by decide) (by decide))
  unfold seps seps seps seps seps seps seps landing
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iempintro

/-- To the `z` neighbour, the quarter it owns and the second half of the opposite corner's. -/
theorem give_z (c : Dev nD) (f : S16384x1024.Idx → Elt F .f32) :
    iprop(oqPts c (qr c 1) f ∗ oPts c (qr c 3) 2 f ∗ oPts c (qr c 3) 3 f) ⊢ bigSep Finset.univ fun k => landAt (F := F) 2 c k := by
  rw [oq_chunks]
  iintro ⟨⟨H0, H1, H2, H3⟩, H4, H5⟩
  iapply (landAt_list 2 c [.dzr 0, .dzr 1, .dzr 2, .dzr 3, .fzr 0, .fzr 1] (by decide) (by decide))
  unfold seps seps seps seps seps seps seps landing
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  iempintro
end Parts

/-! ## The end -/

/-- The lists of all copies hold what the semaphores finished with and what they gave back. -/
theorem done_all (c : Dev nD) {D : List Cl} (hD : D.Nodup) (h : D.toFinset = Finset.univ) :
    seps (done m c) D ⊢ iprop(bigSep Finset.univ (fun k => semVal (dcell c k) 0) ∗ seps (fin m c) allCl) := by
  rw [← seps_eq _ hD, h, ← seps_eq _ (show allCl.Nodup by decide), show allCl.toFinset = Finset.univ by decide]
  unfold done
  rw [bigSep_sep']

/-- What the semaphores gave back, and the argument's other rows, are the whole arrays: the argument
    unchanged, the result the sum. -/
theorem put_together (c : Dev nD) :
    iprop(seps (fin m c) allCl ∗ xrPts c (X m c))
      ⊢ iprop(xwPts c (X m c) ∗ owPts c (outF m c) ∗ rwPts c fullShare (sumR m c)) := by
  unfold allCl
  simp only [seps_cons]
  unfold fin pay
  simp (config := {decide := true}) only [if_true, if_false]
  rw [rw_chunks c sRR, rw_chunks c fullShare]
  iintro ⟨⟨Hx0, Hx1, Hx2, Hx3, -, -, -, -, HL0, HL1, HL2, HL3, Hy0, Hy1, -, -, HM0, HM1, HM2, HM3, -, -, Hz2, Hz3,
    Hz0, Hz1, Hd0, Hd1, Hy2, Hy3, Hd2, Hd3, ⟨Ho, HR0, HR1, HR2, HR3⟩, Hxq, -⟩, Hxr⟩
  isplitl [Hx0 Hx1 Hx2 Hx3 Hxq Hxr]
  · iapply (xw_parts c (X m c)).2
    rw [xq_chunks c (qr c 0) sRt]
    isplitl [Hxr]; · iexact Hxr
    isplitl [Hxq]; · iexact Hxq
    isplitl [Hx0]; · iexact Hx0
    isplitl [Hx1]; · iexact Hx1
    isplitl [Hx2] <;> iassumption
  isplitl [Ho Hz0 Hz1 Hz2 Hz3 Hy0 Hy1 Hy2 Hy3 Hd0 Hd1 Hd2 Hd3]
  · rw [ow_quarters, oq_chunks c (qr c 1), oq_chunks c (qr c 2), oq_chunks c (qr c 3)]
    isplitl [Ho]; · iexact Ho
    isplitl [Hz0 Hz1 Hz2 Hz3]
    · isplitl [Hz0]; · iexact Hz0
      isplitl [Hz1]; · iexact Hz1
      isplitl [Hz2]; · iexact Hz2
      iexact Hz3
    isplitl [Hy0 Hy1 Hy2 Hy3]
    · isplitl [Hy0]; · iexact Hy0
      isplitl [Hy1]; · iexact Hy1
      isplitl [Hy2]; · iexact Hy2
      iexact Hy3
    isplitl [Hd0]; · iexact Hd0
    isplitl [Hd1]; · iexact Hd1
    isplitl [Hd2]; · iexact Hd2
    iexact Hd3
  isplitl [HL0 HM0 HR0]
  · iapply (r_shares c 0 (sumR m c)).2
    isplitl [HL0]; · iexact HL0
    isplitl [HM0] <;> iassumption
  isplitl [HL1 HM1 HR1]
  · iapply (r_shares c 1 (sumR m c)).2
    isplitl [HL1]; · iexact HL1
    isplitl [HM1] <;> iassumption
  isplitl [HL2 HM2 HR2]
  · iapply (r_shares c 2 (sumR m c)).2
    isplitl [HL2]; · iexact HL2
    isplitl [HM2] <;> iassumption
  iapply (r_shares c 3 (sumR m c)).2
  isplitl [HL3]; · iexact HL3
  isplitl [HM3] <;> iassumption

end Cert.KernelIdealProof

end
-- ==== Proof.BodyKernelIdeal.lean ====
module

public import proofs.«01_k».proof.Proof.MemoryKernelIdeal
public import proofs.«01_k».proof.Proof.Gen.KernelIdeal.Skeleton

@[expose] public section

/-! # The kernel's body

The body run on one device, effect by effect in program order, from what a device holds at the start
to the sum in its result and every semaphore at zero. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the program computes -/

/-- The devices signalled, and the targets of the copies along `x`. -/
theorem dev_x (c : Dev nD) : k0_dev1 c = (nbr 0 c).val ∧ k0_dev4 c = (nbr 0 c).val ∧ k0_dev5 c = (nbr 0 c).val
    ∧ k0_dev6 c = (nbr 0 c).val ∧ k0_dev7 c = (nbr 0 c).val := by revert c; decide +kernel
/-- The targets along `y`. -/
theorem dev_y (c : Dev nD) : k0_dev2 c = (nbr 1 c).val ∧ k0_dev8 c = (nbr 1 c).val ∧ k0_dev10 c = (nbr 1 c).val
    ∧ k0_dev12 c = (nbr 1 c).val ∧ k0_dev14 c = (nbr 1 c).val ∧ k0_dev15 c = (nbr 1 c).val ∧ k0_dev17 c = (nbr 1 c).val := by
  revert c; decide +kernel
/-- The targets along `z`. -/
theorem dev_z (c : Dev nD) : k0_dev3 c = (nbr 2 c).val ∧ k0_dev9 c = (nbr 2 c).val ∧ k0_dev11 c = (nbr 2 c).val
    ∧ k0_dev13 c = (nbr 2 c).val ∧ k0_dev16 c = (nbr 2 c).val ∧ k0_dev18 c = (nbr 2 c).val ∧ k0_dev19 c = (nbr 2 c).val := by
  revert c; decide +kernel

/-- The rows of the own quarter. -/
theorem off1 (c : Dev nD) : k0_off1 c = ![4096 * (qr c 0).val, 0] := by revert c; decide +kernel
/-- The rows of the own quarter's chunks. -/
theorem off2 (c : Dev nD) : k0_off2 c 0#32 = ![4096 * (qr c 0).val + 1024 * (0 : Fin 4).val, 0]
    ∧ k0_off2 c 1024#32 = ![4096 * (qr c 0).val + 1024 * (1 : Fin 4).val, 0]
    ∧ k0_off2 c 2048#32 = ![4096 * (qr c 0).val + 1024 * (2 : Fin 4).val, 0]
    ∧ k0_off2 c 3072#32 = ![4096 * (qr c 0).val + 1024 * (3 : Fin 4).val, 0] := by revert c; decide +kernel
/-- The rows of the chunks passed on. -/
theorem off3 (c : Dev nD) : k0_off3 c 1#32 0#32 = ![4096 * (qr c 1).val + 1024 * (lo 0).val, 0]
    ∧ k0_off3 c 1#32 1024#32 = ![4096 * (qr c 1).val + 1024 * (lo 1).val, 0]
    ∧ k0_off3 c 2#32 2048#32 = ![4096 * (qr c 2).val + 1024 * (hi 0).val, 0]
    ∧ k0_off3 c 2#32 3072#32 = ![4096 * (qr c 2).val + 1024 * (hi 1).val, 0] := by revert c; decide +kernel

/-! ## The body -/

/-- A device's own copies, in the order it waits for their sending. -/
abbrev waitOrder : List Cl :=
  [.p1s 0, .p1s 1, .p1s 2, .p1s 3, .sts, .dys 0, .dys 1, .dys 2, .dys 3, .dzs 0, .dzs 1, .dzs 2, .dzs 3, .fys 0, .fys 1, .fzs 0, .fzs 1]
/-- The copies under way in another order. -/
theorem core_sort_C (c : Dev nD) {A T C C' D l : List Cl} (h : C.Nodup) (h' : C'.Nodup) (he : C.toFinset = C'.toFinset) :
    core m c A T C D l ⊢ core m c A T C' D l := by
  unfold core; rw [seps_perm (flt (F := F) c) h h' he]

variable (K : Dev nD × Option Cl → ℕ)

/-- What device `c` holds when the kernel starts. -/
def bodyPre (c : Dev nD) : sProp 𝕄 :=
  iprop(records m K ∗ (∃ W, owes (c : Thread nD τ) (O₀ c) W)
    ∗ (dutyTok ER (barCell (nbr 0 c)) 0 0 ∗ dutyTok ER (barCell (nbr 1 c)) 0 1 ∗ dutyTok ER (barCell (nbr 2 c)) 0 2)
    ∗ atPos ER (barCell c) 0 ∅ 0 ∗ cred (tallyAt (barCell c) () 3)
    ∗ bigSep Finset.univ (fun k => dutyTok ER (dcell (peer c k) k) 0 0) ∗ bigSep Finset.univ (at0 (F := F) c)
    ∗ seps (fun k => cred (tallyAt (dcell c k) () (amt k))) recvOrder
    ∗ xwPts c (X m c) ∗ (∃ f, owPts c f) ∗ (∃ f, rwPts c fullShare f) ∗ (∃ f, qwPts c f))

/-- What it holds when the kernel ends: the argument as it was, the sum in the result, every semaphore at zero. -/
def bodyPost (c : Dev nD) : sProp 𝕄 :=
  iprop((∃ W, owes (c : Thread nD τ) 0 W) ∗ bigSep Finset.univ (fun k => semVal (dcell c k) 0) ∗ semVal (barCell c) 0
    ∗ xwPts c (X m c) ∗ owPts c (outF m c) ∗ (∃ f, rwPts c fullShare f) ∗ (∃ f, qwPts c f))

set_option maxHeartbeats 4000000 in
set_option maxRecDepth 20000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9
            cc0_scratch10 cc0_scratch11 cc0_scratch12 cc0_scratch13) Kt := by
  rw [cc0_body_eq_skeleton]; unfold cc0_body_skel
  obtain ⟨x1, x4, x5, x6, x7⟩ := dev_x c
  obtain ⟨y2, y8, y10, y12, y14, y15, y17⟩ := dev_y c
  obtain ⟨z3, z9, z11, z13, z16, z18, z19⟩ := dev_z c
  obtain ⟨p0, p1, p2, p3⟩ := off2 c
  obtain ⟨f0, f1, f2, f3⟩ := off3 c
  unfold bodyPre
  iintro ⟨⟨#Hr, ⟨%W, Ho⟩, ⟨Ht0, Ht1, Ht2⟩, Hat, Hcb, HT, HA, HC, Hx, ⟨%fo, Hw⟩, ⟨%fr, Hrw⟩, ⟨%fq, Hqw⟩⟩, Hk⟩
  -- the arrays in the parts the copies move
  ihave Hx := (xw_parts c (X m c)).1 $$ Hx
  icases Hx with ⟨Hxr, Hxq, Hxs⟩
  ihave Hxs := (Entails.of_eq (xq_chunks c (qr c 0) sRt (X m c))) $$ Hxs
  icases Hxs with ⟨Hx0, Hx1, Hx2, Hx3⟩
  ihave Hw := (Entails.of_eq (ow_quarters c fo)) $$ Hw
  icases Hw with ⟨Hown, Hwz, Hwy, Hwd⟩
  ihave Hwd := (Entails.of_eq (oq_chunks c (qr c 3) fo)) $$ Hwd
  icases Hwd with ⟨Hd0, Hd1, Hd2, Hd3⟩
  -- part 1
  rw [k0_part1_eq_skeleton]; unfold k0_part1_skel
  simp only [Prog.lift, Prog.bind_op, Prog.bind_ret, Prog.pure_eq_ret, semSignalWord, semWaitWord, wp_deviceId]
  iapply (step_signal m K 0 (Fin.ext x1) (owed1 c) rfl rfl) $$ [Ho Ht0 Hrw]
  · isplitr; · iexact Hr
    isplitl [Ho]; · iexact Ho
    isplitl [Ht0]; · iexact Ht0
    iapply (give_x c fr); iexact Hrw
  iintro Ho
  iapply (step_signal m K 1 (Fin.ext y2) (owed2 c) rfl rfl) $$ [Ho Ht1 Hwy Hd0 Hd1]
  · isplitr; · iexact Hr
    isplitl [Ho]; · iexact Ho
    isplitl [Ht1]; · iexact Ht1
    iapply (give_y c fo)
    isplitl [Hwy]; · iexact Hwy
    isplitl [Hd0]; · iexact Hd0
    iexact Hd1
  iintro Ho
  -- part 2
  rw [k0_part2_eq_skeleton]; unfold k0_part2_skel
  simp only [Prog.lift, Prog.bind_op, Prog.bind_ret, Prog.pure_eq_ret, semSignalWord, semWaitWord, wp_deviceId]
  iapply (step_signal m K 2 (Fin.ext z3) (rest c order) rfl rfl) $$ [Ho Ht2 Hwz Hd2 Hd3]
  · isplitr; · iexact Hr
    isplitl [Ho]; · iexact Ho
    isplitl [Ht2]; · iexact Ht2
    iapply (give_z c fo)
    isplitl [Hwz]; · iexact Hwz
    isplitl [Hd2]; · iexact Hd2
    iexact Hd3
  iintro Ho
  iapply (step_barrier m K rfl) $$ [Ho Hat Hcb HT HA HC]
  · isplitr; · iexact Hr
    isplitl [Ho]; · iexact Ho
    isplitl [Hat]; · iexact Hat
    isplitl [Hcb]; · iexact Hcb
    isplitl [HT]; · iexact HT
    isplitl [HA]; · iexact HA
    iexact HC
  iintro ⟨H, Hz⟩
  iapply (copy_xl m K rfl (off1 c)) $$ [H Hxq Hqw]
  · isplitr; · iexact Hr
    isplitl [H]; · iexact H
    isplitl [Hxq]; · iexact Hxq
    iexact Hqw
  iintro H
  ihave H := (core_take_C m c .xls _ _ _ _ _) $$ H
  icases H with ⟨Hxl, H⟩
  iapply (send_p1 m K 0 (Fin.ext x4) rfl rfl p0 rfl) $$ [H Hx0]
  · isplitr; · iexact Hr
    isplitl [H]; · iexact H
    iexact Hx0
  iintro H
  -- part 3
  rw [k0_part3_eq_skeleton]; unfold k0_part3_skel
  simp only [Prog.lift, Prog.bind_op, Prog.bind_ret, Prog.pure_eq_ret, semSignalWord, semWaitWord, wp_deviceId]
  iapply (send_p1 m K 1 (Fin.ext x5) rfl rfl p1 rfl) $$ [H Hx1]
  · isplitr; · iexact Hr
    isplitl [H]; · iexact H
    iexact Hx1
  iintro H
  iapply (send_p1 m K 2 (Fin.ext x6) rfl rfl p2 rfl) $$ [H Hx2]
  · isplitr; · iexact Hr
    isplitl [H]; · iexact H
    iexact Hx2
  iintro H
  iapply (send_p1 m K 3 (Fin.ext x7) rfl rfl p3 rfl) $$ [H Hx3]
  · isplitr; · iexact Hr
    isplitl [H]; · iexact H
    iexact Hx3
  iintro H
  iapply (step_wait m K .xls (qwPts c (xqF m c)) rfl (by rfl) (by decide) (sep_comm (PROP := sProp 𝕄)).1 (l := order.drop 4)) $$ [H Hxl]
  · isplitr; · iexact Hr
    isplitl [Hxl]; · iexact Hxl
    iexact H
  iintro ⟨H, Hqw⟩
  -- part 4
  rw [k0_part4_eq_skeleton]; unfold k0_part4_skel
  simp only [Prog.lift, Prog.bind_op, Prog.bind_ret, Prog.pure_eq_ret, semSignalWord, semWaitWord, wp_deviceId]
  iapply (recv_use m K (.p1r 0) (order.drop 4) (rPts c 0 fullShare (recvF m c)) rfl (by rfl) (by decide) rfl rfl) $$ [H]
  · isplitr; · iexact Hr
    iexact H
  iintro ⟨H, Hc0⟩
  iapply (load_r 0 rfl) $$ Hc0; iintro Hc0
  iapply (load_q 0 rfl) $$ Hqw; iintro Hqw
  iapply (load_r 0 rfl) $$ Hc0; iintro Hc0
  iapply (store_r 0 (sumR m c) rfl (sum_chunk m c 0)) $$ Hc0; iintro Hc0
  ihave Hc0 := (r_shares c 0 (sumR m c)).1 $$ Hc0
  icases Hc0 with ⟨HL0, HM0, HR0⟩
  iapply (send_dy m K 0 (Fin.ext y8) rfl rfl p0 rfl) $$ [H HL0]
  · isplitr; · iexact Hr
    isplitl [H]; · iexact H
    iexact HL0
  iintro H
  -- part 5
  rw [k0_part5_eq_skeleton]; unfold k0_part5_skel
  simp only [Prog.lift, Prog.bind_op, Prog.bind_ret, Prog.pure_eq_ret, semSignalWord, semWaitWord, wp_deviceId]
  iapply (send_dz m K 0 (Fin.ext z9) rfl rfl p0 rfl) $$ [H HM0]
  · isplitr; · iexact Hr
    isplitl [H]; · iexact H
    iexact HM0
  iintro H
  iapply (recv_use m K (.p1r 1) (order.drop 6) (rPts c 1 fullShare (recvF m c)) rfl (by rfl) (by decide) rfl rfl) $$ [H]
  · isplitr; · iexact Hr
    iexact H
  iintro ⟨H, Hc1⟩
  iapply (load_r 1 rfl) $$ Hc1; iintro Hc1
  iapply (load_q 1 rfl) $$ Hqw; iintro Hqw
  iapply (load_r 1 rfl) $$ Hc1; iintro Hc1
  iapply (store_r 1 (sumR m c) rfl (sum_chunk m c 1)) $$ Hc1; iintro Hc1
  ihave Hc1 := (r_shares c 1 (sumR m c)).1 $$ Hc1
  icases Hc1 with ⟨HL1, HM1, HR1⟩
  -- part 6
  rw [k0_part6_eq_skeleton]; unfold k0_part6_skel
  simp only [Prog.lift, Prog.bind_op, Prog.bind_ret, Prog.pure_eq_ret, semSignalWord, semWaitWord, wp_deviceId]
  iapply (send_dy m K 1 (Fin.ext y10) rfl rfl p1 rfl) $$ [H HL1]
  · isplitr; · iexact Hr
    isplitl [H]; · iexact H
    iexact HL1
  iintro H
  iapply (send_dz m K 1 (Fin.ext z11) rfl rfl p1 rfl) $$ [H HM1]
  · isplitr; · iexact Hr
    isplitl [H]; · iexact H
    iexact HM1
  iintro H
  iapply (recv_use m K (.p1r 2) (order.drop 8) (rPts c 2 fullShare (recvF m c)) rfl (by rfl) (by decide) rfl rfl) $$ [H]
  · isplitr; · iexact Hr
    iexact H
  iintro ⟨H, Hc2⟩
  iapply (load_r 2 rfl) $$ Hc2; iintro Hc2
  -- part 7
  rw [k0_part7_eq_skeleton]; unfold k0_part7_skel
  simp only [Prog.lift, Prog.bind_op, Prog.bind_ret, Prog.pure_eq_ret, semSignalWord, semWaitWord, wp_deviceId]
  iapply (load_q 2 rfl) $$ Hqw; iintro Hqw
  iapply (load_r 2 rfl) $$ Hc2; iintro Hc2
  iapply (store_r 2 (sumR m c) rfl (sum_chunk m c 2)) $$ Hc2; iintro Hc2
  ihave Hc2 := (r_shares c 2 (sumR m c)).1 $$ Hc2
  icases Hc2 with ⟨HL2, HM2, HR2⟩
  iapply (send_dy m K 2 (Fin.ext y12) rfl rfl p2 rfl) $$ [H HL2]
  · isplitr; · iexact Hr
    isplitl [H]; · iexact H
    iexact HL2
  iintro H
  iapply (send_dz m K 2 (Fin.ext z13) rfl rfl p2 rfl) $$ [H HM2]
  · isplitr; · iexact Hr
    isplitl [H]; · iexact H
    iexact HM2
  iintro H
  -- part 8
  rw [k0_part8_eq_skeleton]; unfold k0_part8_skel
  simp only [Prog.lift, Prog.bind_op, Prog.bind_ret, Prog.pure_eq_ret, semSignalWord, semWaitWord, wp_deviceId]
  iapply (recv_use m K (.dzr 0) (order.drop 10) (oPts c (qr c 1) 0 (outF m c)) rfl (by rfl) (by decide) rfl rfl) $$ [H]
  · isplitr; · iexact Hr
    iexact H
  iintro ⟨H, Hf⟩
  iapply (send_fy m K 0 (Fin.ext y14) rfl rfl f0) $$ [H Hf]
  · isplitr; · iexact Hr
    isplitl [H]; · iexact H
    iexact Hf
  iintro H
  -- part 9
  rw [k0_part9_eq_skeleton]; unfold k0_part9_skel
  simp only [Prog.lift, Prog.bind_op, Prog.bind_ret, Prog.pure_eq_ret, semSignalWord, semWaitWord, wp_deviceId]
  iapply (recv_keep m K (.dyr 0) (order.drop 11) rfl (by rfl) (by decide) rfl) $$ [H]
  · isplitr; · iexact Hr
    iexact H
  iintro H
  iapply (recv_use m K (.p1r 3) (order.drop 11) (rPts c 3 fullShare (recvF m c)) rfl (by rfl) (by decide) rfl rfl) $$ [H]
  · isplitr; · iexact Hr
    iexact H
  iintro ⟨H, Hc3⟩
  iapply (load_r 3 rfl) $$ Hc3; iintro Hc3
  iapply (load_q 3 rfl) $$ Hqw; iintro Hqw
  iapply (load_r 3 rfl) $$ Hc3; iintro Hc3
  iapply (store_r 3 (sumR m c) rfl (sum_chunk m c 3)) $$ Hc3; iintro Hc3
  ihave Hc3 := (r_shares c 3 (sumR m c)).1 $$ Hc3
  icases Hc3 with ⟨HL3, HM3, HR3⟩
  -- part 10
  rw [k0_part10_eq_skeleton]; unfold k0_part10_skel
  simp only [Prog.lift, Prog.bind_op, Prog.bind_ret, Prog.pure_eq_ret, semSignalWord, semWaitWord, wp_deviceId]
  iapply (send_dy m K 3 (Fin.ext y15) rfl rfl p3 rfl) $$ [H HL3]
  · isplitr; · iexact Hr
    isplitl [H]; · iexact H
    iexact HL3
  iintro H
  iapply (send_dz m K 3 (Fin.ext z16) rfl rfl p3 rfl) $$ [H HM3]
  · isplitr; · iexact Hr
    isplitl [H]; · iexact H
    iexact HM3
  iintro H
  iapply (recv_use m K (.dzr 1) (order.drop 13) (oPts c (qr c 1) 1 (outF m c)) rfl (by rfl) (by decide) rfl rfl) $$ [H]
  · isplitr; · iexact Hr
    iexact H
  iintro ⟨H, Hf⟩
  -- part 11
  rw [k0_part11_eq_skeleton]; unfold k0_part11_skel
  simp only [Prog.lift, Prog.bind_op, Prog.bind_ret, Prog.pure_eq_ret, semSignalWord, semWaitWord, wp_deviceId]
  iapply (send_fy m K 1 (Fin.ext y17) rfl rfl f1) $$ [H Hf]
  · isplitr; · iexact Hr
    isplitl [H]; · iexact H
    iexact Hf
  iintro H
  iapply (recv_keep m K (.dyr 1) (order.drop 14) rfl (by rfl) (by decide) rfl) $$ [H]
  · isplitr; · iexact Hr
    iexact H
  iintro H
  ihave HR := (Entails.of_eq (rw_chunks c sRR (sumR m c)).symm) $$ [HR0 HR1 HR2 HR3]
  · isplitl [HR0]; · iexact HR0
    isplitl [HR1]; · iexact HR1
    isplitl [HR2]; · iexact HR2
    iexact HR3
  iapply (copy_st m K rfl (off1 c)) $$ [H HR Hown]
  · isplitr; · iexact Hr
    isplitl [H]; · iexact H
    isplitl [HR]; · iexact HR
    iexact Hown
  iintro H
  -- part 12
  rw [k0_part12_eq_skeleton]; unfold k0_part12_skel
  simp only [Prog.lift, Prog.bind_op, Prog.bind_ret, Prog.pure_eq_ret, semSignalWord, semWaitWord, wp_deviceId]
  iapply (recv_keep m K (.dzr 2) (order.drop 14) rfl (by rfl) (by decide) rfl) $$ [H]
  · isplitr; · iexact Hr
    iexact H
  iintro H
  iapply (recv_use m K (.dyr 2) (order.drop 14) (oPts c (qr c 2) 2 (outF m c)) rfl (by rfl) (by decide) rfl rfl) $$ [H]
  · isplitr; · iexact Hr
    iexact H
  iintro ⟨H, Hf⟩
  iapply (send_fz m K 0 (Fin.ext z18) rfl rfl f2) $$ [H Hf]
  · isplitr; · iexact Hr
    isplitl [H]; · iexact H
    iexact Hf
  iintro H
  -- part 13
  rw [k0_part13_eq_skeleton]; unfold k0_part13_skel
  simp only [Prog.lift, Prog.bind_op, Prog.bind_ret, Prog.pure_eq_ret, semSignalWord, semWaitWord, wp_deviceId]
  iapply (recv_keep m K (.dzr 3) (order.drop 15) rfl (by rfl) (by decide) rfl) $$ [H]
  · isplitr; · iexact Hr
    iexact H
  iintro H
  iapply (recv_use m K (.dyr 3) (order.drop 15) (oPts c (qr c 2) 3 (outF m c)) rfl (by rfl) (by decide) rfl rfl) $$ [H]
  · isplitr; · iexact Hr
    iexact H
  iintro ⟨H, Hf⟩
  -- part 14
  rw [k0_part14_eq_skeleton]; unfold k0_part14_skel
  simp only [Prog.lift, Prog.bind_op, Prog.bind_ret, Prog.pure_eq_ret, semSignalWord, semWaitWord, wp_deviceId]
  iapply (send_fz m K 1 (Fin.ext z19) rfl rfl f3) $$ [H Hf]
  · isplitr; · iexact Hr
    isplitl [H]; · iexact H
    iexact Hf
  iintro H
  iapply (recv_keep m K (.fyr 0) (order.drop 16) rfl (by rfl) (by decide) rfl) $$ [H]
  · isplitr; · iexact Hr
    iexact H
  iintro H
  iapply (recv_keep m K (.fyr 1) (order.drop 16) rfl (by rfl) (by decide) rfl) $$ [H]
  · isplitr; · iexact Hr
    iexact H
  iintro H
  -- part 15
  rw [k0_part15_eq_skeleton]; unfold k0_part15_skel
  simp only [Prog.lift, Prog.bind_op, Prog.bind_ret, Prog.pure_eq_ret, semSignalWord, semWaitWord, wp_deviceId]
  iapply (recv_keep m K (.fzr 0) (order.drop 16) rfl (by rfl) (by decide) rfl) $$ [H]
  · isplitr; · iexact Hr
    iexact H
  iintro H
  iapply (recv_keep m K (.fzr 1) (order.drop 16) rfl (by rfl) (by decide) rfl) $$ [H]
  · isplitr; · iexact Hr
    iexact H
  iintro H
  -- everything is received and sent; the waits for the sends come in the program's order
  ihave H := (core_sort_C m c (C' := waitOrder) (by decide) (by decide) (by decide)) $$ H
  iapply (sent m K (.p1s 0) rfl (by rfl) rfl) $$ [H]
  · isplitr; · iexact Hr
    iexact H
  iintro H
  -- part 16
  rw [k0_part16_eq_skeleton]; unfold k0_part16_skel
  simp only [Prog.lift, Prog.bind_op, Prog.bind_ret, Prog.pure_eq_ret, semSignalWord, semWaitWord, wp_deviceId]
  iapply (sent m K (.p1s 1) rfl (by rfl) rfl) $$ [H]
  · isplitr; · iexact Hr
    iexact H
  iintro H
  iapply (sent m K (.p1s 2) rfl (by rfl) rfl) $$ [H]
  · isplitr; · iexact Hr
    iexact H
  iintro H
  iapply (sent m K (.p1s 3) rfl (by rfl) rfl) $$ [H]
  · isplitr; · iexact Hr
    iexact H
  iintro H
  iapply (sent m K (.sts) rfl (by rfl) rfl) $$ [H]
  · isplitr; · iexact Hr
    iexact H
  iintro H
  iapply (sent m K (.dys 0) rfl (by rfl) rfl) $$ [H]
  · isplitr; · iexact Hr
    iexact H
  iintro H
  iapply (sent m K (.dys 1) rfl (by rfl) rfl) $$ [H]
  · isplitr; · iexact Hr
    iexact H
  iintro H
  -- part 17
  rw [k0_part17_eq_skeleton]; unfold k0_part17_skel
  simp only [Prog.lift, Prog.bind_op, Prog.bind_ret, Prog.pure_eq_ret, semSignalWord, semWaitWord, wp_deviceId]
  iapply (sent m K (.dys 2) rfl (by rfl) rfl) $$ [H]
  · isplitr; · iexact Hr
    iexact H
  iintro H
  iapply (sent m K (.dys 3) rfl (by rfl) rfl) $$ [H]
  · isplitr; · iexact Hr
    iexact H
  iintro H
  iapply (sent m K (.dzs 0) rfl (by rfl) rfl) $$ [H]
  · isplitr; · iexact Hr
    iexact H
  iintro H
  iapply (sent m K (.dzs 1) rfl (by rfl) rfl) $$ [H]
  · isplitr; · iexact Hr
    iexact H
  iintro H
  iapply (sent m K (.dzs 2) rfl (by rfl) rfl) $$ [H]
  · isplitr; · iexact Hr
    iexact H
  iintro H
  iapply (sent m K (.dzs 3) rfl (by rfl) rfl) $$ [H]
  · isplitr; · iexact Hr
    iexact H
  iintro H
  iapply (sent m K (.fys 0) rfl (by rfl) rfl) $$ [H]
  · isplitr; · iexact Hr
    iexact H
  iintro H
  iapply (sent m K (.fys 1) rfl (by rfl) rfl) $$ [H]
  · isplitr; · iexact Hr
    iexact H
  iintro H
  iapply (sent m K (.fzs 0) rfl (by rfl) rfl) $$ [H]
  · isplitr; · iexact Hr
    iexact H
  iintro H
  iapply (sent m K (.fzs 1) rfl (by rfl) rfl) $$ [H]
  · isplitr; · iexact Hr
    iexact H
  iintro H
  rw [wp_ret]; imodintro
  iapply Hk
  unfold core bodyPost
  icases H with ⟨⟨%W', Ho⟩, -, -, -, HD⟩
  ihave HD := (done_all m c (by decide) (by decide)) $$ HD
  icases HD with ⟨Hs, Hf⟩
  ihave Hm := (put_together m c) $$ [Hf Hxr]
  · isplitl [Hf]; · iexact Hf
    iexact Hxr
  icases Hm with ⟨Hx, Hw, Hrw⟩
  isplitl [Ho]; · iexists W'; iexact Ho
  isplitl [Hs]; · iexact Hs
  isplitl [Hz]; · iexact Hz
  isplitl [Hx]; · iexact Hx
  isplitl [Hw]; · iexact Hw
  isplitl [Hrw]; · iexists _; iexact Hrw
  iexists _; iexact Hqw

end Cert.KernelIdealProof

end
-- ==== Proof.LaunchKernelIdeal.lean ====
module

public import proofs.«01_k».proof.Proof.BodyKernelIdeal
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

/-! # The launch

The eight devices started together: their semaphores at zero become the shared records, the rights to
pay are handed to the devices that pay, and every device runs the body. -/

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state the run starts from. -/
abbrev s₀ : MemSt nD τ sig (Elt F) := ⟨m, fun _ => 0, ρ⟩

/-! ## What a device holds before and after its kernel -/

/-- The positions and rights of device `c`: at its own semaphores, and to pay its peers'. -/
def linear (c : Dev nD) : sProp 𝕄 :=
  iprop((atPos ER (barCell c) 0 ∅ 0 ∗ bigSep Finset.univ (at0 (F := F) c))
    ∗ bigSep Finset.univ (fun j : Fin 3 => dutyTok ER (barCell (nbr j c)) 0 j)
    ∗ bigSep Finset.univ (fun k => dutyTok ER (dcell (peer c k) k) 0 0))

/-- What the start-up of the semaphores gives device `c`. -/
def G' (c : Dev nD) : sProp 𝕄 := iprop(∃ K, bigSep Finset.univ (record m K) ∗ linear c)

/-- All device `c` holds at the start but its scratch memory and its debts. -/
def start (c : Dev nD) : sProp 𝕄 :=
  iprop(G' m c ∗ levAts L lv ∗ cred (tallyAt (barCell c) () 3)
    ∗ seps (fun k => cred (tallyAt (dcell c k) () (amt k))) recvOrder ∗ xwPts c (X m c) ∗ (∃ f, owPts c f))

def scratch (c : Dev nD) : sProp 𝕄 := iprop((∃ f, rwPts (F := F) c fullShare f) ∗ (∃ f, qwPts (F := F) c f))

/-- What is read off at the end: the barrier's semaphore, the argument and the result. -/
def result (c : Dev nD) : sProp 𝕄 := iprop(semVal (barCell c) 0 ∗ xwPts c (X m c) ∗ owPts c (outF m c))

def finish (c : Dev nD) : sProp 𝕄 :=
  iprop(result m c ∗ bigSep Finset.univ (fun k => semVal (dcell c k) 0) ∗ scratch c)

def dats (_ : Fin 1) (c : Dev nD) : Dat τ (Elt F) Unit ℕ UU ℕ cfg0 c where
  A w := w.elim0
  after w := w.elim0
  Φ t := match t with
    | ⟨0, _⟩ => iprop(start m c ∗ scratch c)
    | ⟨_ + 1, _⟩ => finish m c
  q _ := fullShare
  owed t := match t with
    | ⟨0, _⟩ => O₀ c
    | ⟨_ + 1, _⟩ => 0

omit [FloatOps F] in
theorem bigSep_noWindow (Φ : Fin cfg0.W → sProp 𝕄) : bigSep Finset.univ Φ = iprop(emp) := by
  rw [show (Finset.univ : Finset (Fin cfg0.W)) = ∅ from rfl, bigSep_empty]; rfl

/-- The body of device `c`, as the launch asks for it. -/
theorem body_obligation (c : Dev nD) : BodyObligation (dats (F := F) m 0 c) (defs₀ (F := F)) 𝒱₀ () Set.univ := fun t => by
  rw [fin_N0 t, bigSep_noWindow, bigSep_noWindow]
  show iprop((start m c ∗ scratch c) ∗ (dats (F := F) m 0 c).owesAt () (Fin.castSucc t0_0) ∗ emp)
    ⊢ wp frame (wpE (defs₀ (F := F)) 𝒱₀ (c : Thread nD τ) none) Set.univ
      (cc0_body (Memref.whole main_arg0) (Memref.isWhole_whole _) (Memref.whole main_v1) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7 cc0_scratch8 cc0_scratch9
        cc0_scratch10 cc0_scratch11 cc0_scratch12 cc0_scratch13)
      (fun _ => iprop(finish m c ∗ (dats (F := F) m 0 c).owesAt () (Fin.succ t0_0) ∗ emp))
  unfold start scratch G' linear
  rw [bigSep_univ_eq_bigSepL [0, 1, 2] (by decide) (by decide) (fun j : Fin 3 => (dutyTok ER (barCell (nbr j c)) 0 j : sProp 𝕄))]
  show iprop(((((∃ K, bigSep Finset.univ (record m K)
      ∗ (atPos ER (barCell c) 0 ∅ 0 ∗ bigSep Finset.univ (at0 (F := F) c))
      ∗ (dutyTok ER (barCell (nbr 0 c)) 0 0 ∗ dutyTok ER (barCell (nbr 1 c)) 0 1 ∗ dutyTok ER (barCell (nbr 2 c)) 0 2)
      ∗ bigSep Finset.univ (fun k => dutyTok ER (dcell (peer c k) k) 0 0))
    ∗ levAts L lv ∗ cred (tallyAt (barCell c) () 3)
    ∗ seps (fun k => cred (tallyAt (dcell c k) () (amt k))) recvOrder ∗ xwPts c (X m c) ∗ (∃ f, owPts c f)))
    ∗ ((∃ f, rwPts c fullShare f) ∗ (∃ f, qwPts c f)))
    ∗ (dats (F := F) m 0 c).owesAt () (Fin.castSucc t0_0) ∗ emp) ⊢ _
  iintro ⟨⟨⟨⟨%K, #Hr, ⟨Hat, HA⟩, Ht, HT⟩, #Hlev, Hcb, HC, Hx, Hw⟩, Hrw, Hqw⟩, ⟨%W, -, Ho⟩, -⟩
  iapply (sound_body m K c fun _ => iprop(finish m c ∗ (dats (F := F) m 0 c).owesAt () (Fin.succ t0_0) ∗ emp))
  unfold bodyPre records
  isplitr []
  · isplitr
    · isplitl; · iexact Hr
      iexact Hlev
    isplitl [Ho]; · iexists W; iexact Ho
    isplitl [Ht]; · iexact Ht
    isplitl [Hat]; · iexact Hat
    isplitl [Hcb]; · iexact Hcb
    isplitl [HT]; · iexact HT
    isplitl [HA]; · iexact HA
    isplitl [HC]; · iexact HC
    isplitl [Hx]; · iexact Hx
    isplitl [Hw]; · iexact Hw
    isplitl [Hrw]; · iexact Hrw
    iexact Hqw
  · unfold bodyPost finish result scratch
    iintro ⟨⟨%W', Ho⟩, HS, HB, Hx, Hw, Hrw, Hqw⟩
    isplitr [Ho]
    · isplitl [HB Hx Hw]
      · isplitl [HB]; · iexact HB
        isplitl [Hx]; · iexact Hx
        iexact Hw
      isplitl [HS]; · iexact HS
      isplitl [Hrw]; · iexact Hrw
      iexact Hqw
    · isplitl [Ho]
      · iexists W'
        isplitr
        · ipureintro; exact fun _ _ => Or.inl trivial
        · iexact Ho
      · iempintro

/-! ## The launch's ghost state -/

/-- The kernel's own semaphores: those of the copies. -/
abbrev osem : Fin 34 → SemLoc sig := fun s => .dma s

theorem ownSemFacts : Pipeline.OwnSemFacts cfg0.spec osem := by decide

def clEquiv : Cl ≃ Fin 34 := ⟨enc34, dec34, dec_enc34, enc_dec34⟩

theorem dcell_eq_iff {c d : Dev nD} {k k' : Cl} : dcell c k = dcell d k' ↔ c = d ∧ k = k' := by
  refine ⟨fun h => ⟨congrArg (fun g : GSem nD τ sig => g.1.1) h, enc_inj ?_⟩, fun h => by rw [h.1, h.2]⟩
  have h2 : (SemLoc.dma (enc k) : SemLoc sig) = .dma (enc k') := congrArg Prod.snd h
  exact SemLoc.dma.inj h2

theorem barCell_eq_iff {c d : Dev nD} : barCell c = barCell d ↔ c = d :=
  ⟨fun h => congrArg (fun g : GSem nD τ sig => g.1.1) h, fun h => by rw [h]⟩

theorem bar_ne_dma (s : DmaSem sig) : (SemLoc.reg barS : SemLoc sig) ≠ .dma s := fun h => by cases h
theorem barCell_ne (c d : Dev nD) (k : Cl) : barCell c ≠ dcell d k := fun h => bar_ne_dma _ (congrArg Prod.snd h)

theorem kcell_injective : Function.Injective (kcell : Dev nD × Option Cl → GSem nD τ sig) := by
  rintro ⟨c, _ | k⟩ ⟨d, _ | k'⟩ h
  · have h1 : c = d := barCell_eq_iff.1 h
    rw [h1]
  · exact absurd h (barCell_ne c d k')
  · exact absurd h.symm (barCell_ne d c k)
  · obtain ⟨h1, h2⟩ : c = d ∧ k = k' := dcell_eq_iff.1 h
    rw [h1, h2]

def kcells : Finset (GSem nD τ sig) := Finset.univ.map ⟨kcell, kcell_injective⟩

/-- The rights to pay at device `c`'s semaphores: three at the barrier's, one at each copy's. -/
abbrev tokOf (ct : Dev nD × (Fin 3 ⊕ Cl)) : GSem nD τ sig × ℕ × Fin 3 := match ct.2 with
  | .inl j => (barCell ct.1, 0, j)
  | .inr k => (dcell ct.1 k, 0, 0)

theorem tokOf_injective : Function.Injective (tokOf : Dev nD × (Fin 3 ⊕ Cl) → GSem nD τ sig × ℕ × Fin 3) := by
  rintro ⟨c, j | k⟩ ⟨d, j' | k'⟩ h
  · have h1 : c = d := barCell_eq_iff.1 (congrArg Prod.fst h)
    have h2 : j = j' := congrArg (fun x => x.2.2) h
    rw [h1, h2]
  · exact absurd (congrArg Prod.fst h) (barCell_ne c d k')
  · exact absurd (congrArg Prod.fst h).symm (barCell_ne d c k)
  · obtain ⟨h1, h2⟩ : c = d ∧ k = k' := dcell_eq_iff.1 (congrArg Prod.fst h)
    rw [h1, h2]

def ktoks : Finset (GSem nD τ sig × ℕ × Fin 3) := Finset.univ.map ⟨tokOf, tokOf_injective⟩

def u₀ : UU :=
  (initOf (Pipeline.cells cfgs cellOf_inj) (Pipeline.launchToks cfgs cellOf_inj), initOf kcells ktoks)

def toks (c : Dev nD) : sProp 𝕄 :=
  iprop(bigSep Finset.univ (fun j : Fin 3 => dutyTok ER (barCell c) 0 j) ∗ bigSep Finset.univ (fun k => dutyTok ER (dcell c k) 0 0))

/-- What device `c` is dealt of the launch's ghost state. -/
def G (c : Dev nD) : sProp 𝕄 :=
  iprop((bigSep Finset.univ fun o => roundState ER (Rd m) (kcell (c, o)) 0)
    ∗ (bigSep Finset.univ fun o => atPos ER (kcell (c, o)) 0 ∅ 0) ∗ (bigSep Finset.univ fun o => reached ER (kcell (c, o)) 0) ∗ toks c)

omit [FloatOps F] in
theorem bigSep_option (Φ : Option Cl → sProp 𝕄) :
    bigSep Finset.univ Φ = iprop(Φ none ∗ bigSep Finset.univ fun k => Φ (some k)) := by
  rw [show (Finset.univ : Finset (Option Cl)) = insert none (Finset.univ.map Function.Embedding.some) from by
      ext o; cases o <;> simp, bigSep_insert (by simp), bigSep_map]
  rfl

theorem fund_kernel : BI.own (ER (initOf kcells ktoks)) ⊢ (|==> bigSep Finset.univ (G (F := F) m) : sProp 𝕄) := by
  have hX (Φ : GSem nD τ sig → sProp 𝕄) : bigSep kcells Φ = bigSep Finset.univ fun c : Dev nD => bigSep Finset.univ fun o : Option Cl => Φ (kcell (c, o)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ (fun k => semVal (dcell c k) 0) := by
  unfold Pipeline.ownSems0
  exact bigSep_univ_equiv clEquiv _

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero, as one family. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun o : Option Cl => semVal (kcell (c, o)) 0 : sProp 𝕄) := by
  rw [ownSems0_eq, unscopedSems0_eq, bigSep_option]

def nbrEquiv (j : Fin 3) : Dev nD ≃ Dev nD := ⟨nbr j, nbr j, nbr_nbr j, nbr_nbr j⟩
def peerEquiv (k : Cl) : Dev nD ≃ Dev nD := ⟨fun c => peer c k, fun c => peer c k, fun c => peer_peer c k, fun c => peer_peer c k⟩

omit [FloatOps F] in
/-- Every right to pay handed from the device paid to the device paying. -/
theorem toks_around : (bigSep Finset.univ fun c : Dev nD => (toks c : sProp 𝕄))
    = iprop((bigSep Finset.univ fun c : Dev nD => bigSep Finset.univ fun j : Fin 3 => dutyTok ER (barCell (nbr j c)) 0 j)
      ∗ bigSep Finset.univ fun c : Dev nD => bigSep Finset.univ fun k => dutyTok ER (dcell (peer c k) k) 0 0) := by
  unfold toks
  rw [bigSep_sep', bigSep_univ_comm, bigSep_univ_comm (fun (c : Dev nD) (k : Cl) => (dutyTok ER (dcell c k) 0 0 : sProp 𝕄)),
    bigSep_congr (s := Finset.univ) (fun (j : Fin 3) _ => bigSep_univ_equiv (nbrEquiv j) fun c : Dev nD => (dutyTok ER (barCell c) 0 j : sProp 𝕄)),
    bigSep_congr (s := Finset.univ) (fun (k : Cl) _ => bigSep_univ_equiv (peerEquiv k) fun c : Dev nD => (dutyTok ER (dcell c k) 0 0 : sProp 𝕄)),
    bigSep_univ_comm, bigSep_univ_comm (fun (k : Cl) (c : Dev nD) => (dutyTok ER (dcell (peerEquiv k c) k) 0 0 : sProp 𝕄))]
  rfl

omit [FloatOps F] in
theorem linear_all : iprop((bigSep Finset.univ fun ck : Dev nD × Option Cl => atPos ER (kcell ck) 0 ∅ 0) ∗ bigSep Finset.univ fun c : Dev nD => (toks c : sProp 𝕄))
    = bigSep Finset.univ (linear (F := F)) := by
  rw [toks_around, bigSep_univ_prod]
  unfold linear
  rw [bigSep_congr (s := Finset.univ) (fun (c : Dev nD) _ => bigSep_option fun o => (atPos ER (kcell (c, o)) 0 ∅ 0 : sProp 𝕄))]
  simp only [bigSep_sep']
  rfl

/-- The records are every device's, so each gets them with its own part. -/
theorem deal (K : Dev nD × Option Cl → ℕ) :
    iprop(bigSep Finset.univ (record m K) ∗ bigSep Finset.univ (linear (F := F))) ⊢ bigSep Finset.univ (G' m) := by
  have one : ∀ c, iprop(bigSep Finset.univ (record m K) ∗ linear c) ⊢ G' m c := fun c => by
    unfold G'
    iintro H
    iexists K
    iexact H
  have each : (bigSep Finset.univ fun c : Dev nD => iprop(bigSep Finset.univ (record m K) ∗ linear c)) ⊢ bigSep Finset.univ (G' m) :=
    bigSep_mono fun c _ => one c
  rw [bigSep_sep'] at each
  exact (sep_mono_left (BI.bigSep_of_persistent Finset.univ _)).trans each

/-- The invariants made of the semaphores of all devices at once, and everything dealt out. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have hv : iprop((bigSep Finset.univ fun c : Dev nD => unscopedSems0 c)
      ∗ bigSep Finset.univ fun c : Dev nD => Pipeline.ownSems0 (Ix := Unit) (Name := ℕ) (U := UU) (Lvl := ℕ) (Val := Elt F) (τ := τ) osem c)
      = (bigSep Finset.univ fun ck : Dev nD × Option Cl => semVal (kcell ck) 0 : sProp 𝕄) := by
    rw [bigSep_univ_prod, ← bigSep_sep']; exact bigSep_congr fun c _ => sems0_eq c
  have hi : iprop((bigSep Finset.univ fun ck : Dev nD × Option Cl => semVal (kcell ck) 0)
        ∗ bigSep Finset.univ fun ck : Dev nD × Option Cl => roundState ER (Rd m) (kcell ck) 0)
      ⊢ (|={Set.univ}=> bigSep Finset.univ fun ck => iprop(∃ κ : ℕ, cellInv ER (Rd m) κ (kcell ck)) : sProp 𝕄) := by
    rw [← bigSep_sep']
    exact (bigSep_mono fun ck _ => (Rounds.body_intro ER (Rd m) (kcell ck)).trans inv_alloc).trans (bigSep_fupd _ _)
  unfold G
  rw [bigSep_sep', bigSep_sep', bigSep_sep', bigSep_sep', bigSep_sep',
    ← bigSep_univ_prod (fun ck : Dev nD × Option Cl => (roundState ER (Rd m) (kcell ck) 0 : sProp 𝕄)),
    ← bigSep_univ_prod (fun ck : Dev nD × Option Cl => (atPos ER (kcell ck) 0 ∅ 0 : sProp 𝕄)),
    ← bigSep_univ_prod (fun ck : Dev nD × Option Cl => (reached ER (kcell ck) 0 : sProp 𝕄))]
  iintro ⟨Hos, Hus, Hst, Hat, #HR, Htok⟩
  ihave Hv := (Entails.of_eq hv) $$ [Hos Hus]
  · isplitl [Hus]; · iexact Hus
    iexact Hos
  imod hi $$ [Hv Hst] with HI
  · isplitl [Hv]; · iexact Hv
    iexact Hst
  ihave HK := (BI.bigSep_exists_pi Finset.univ (fun (ck : Dev nD × Option Cl) (κ : ℕ) => (cellInv ER (Rd m) κ (kcell ck) : sProp 𝕄))) $$ HI
  icases HK with ⟨%K, #HI⟩
  imodintro
  iapply (deal m K)
  isplitr
  · iapply (Entails.of_eq (show iprop((bigSep Finset.univ fun ck => cellInv ER (Rd m) (K ck) (kcell ck)) ∗ bigSep Finset.univ fun ck => reached ER (kcell ck) 0)
      = bigSep Finset.univ (record m K) from by unfold record; rw [bigSep_sep']))
    isplitl; · iexact HI
    iexact HR
  · iapply (Entails.of_eq (linear_all (F := F)))
    isplitl [Hat]; · iexact Hat
    iexact Htok

/-! ## The credits at the start -/

theorem rest_at (d c : Dev nD) (k : Cl) : ∀ {l : List Cl}, l.Nodup → rest d l (dcell c k) () = if k ∈ l ∧ d = peer c k then amt k else 0
  | [], _ => by rw [if_neg (fun h => absurd h.1 List.not_mem_nil)]; rfl
  | k' :: l, h => by
    have h' := List.nodup_cons.1 h
    rw [rest_cons, Pi.add_apply, Finsupp.add_apply, rest_at d c k h'.2, tallyAt_apply]
    have hp : dcell c k = dcell (peer d k') k' ↔ k = k' ∧ d = peer c k := by
      rw [dcell_eq_iff]
      constructor
      · rintro ⟨rfl, rfl⟩; exact ⟨rfl, (peer_peer d k).symm⟩
      · rintro ⟨rfl, rfl⟩; exact ⟨(peer_peer c k).symm, rfl⟩
    by_cases hk : k = k'
    · subst hk
      rw [if_neg (fun hn => h'.1 hn.1), Nat.zero_add]
      by_cases hd : d = peer c k
      · rw [if_pos ⟨hp.2 ⟨rfl, hd⟩, rfl⟩, if_pos ⟨List.mem_cons_self, hd⟩]
      · rw [if_neg (fun hn => hd (hp.1 hn.1).2), if_neg (fun hn => hd hn.2)]
    · rw [if_neg (c := _ ∧ () = ()) (fun hn => hk (hp.1 hn.1).1), Nat.add_zero]
      simp only [List.mem_cons, hk, false_or]

theorem rest_at_bar (d c : Dev nD) : ∀ l : List Cl, rest d l (barCell c) () = 0
  | [] => rfl
  | k :: l => by
    rw [rest_cons, Pi.add_apply, Finsupp.add_apply, rest_at_bar d c l, tallyAt_ne_cell (barCell_ne _ _ _)]; rfl

theorem owed_bar (d c : Dev nD) :
    O₀ d (barCell c) () = (if d = nbr 2 c then 1 else 0) + (if d = nbr 1 c then 1 else 0) + (if d = nbr 0 c then 1 else 0) := by
  have hb : ∀ j, (tallyAt (barCell (nbr j d)) () 1 : CellTallies nD τ sig Unit) (barCell c) () = if d = nbr j c then 1 else 0 := fun j => by
    have hj : (barCell c = barCell (nbr j d) ∧ () = ()) ↔ d = nbr j c := by
      rw [barCell_eq_iff]
      constructor
      · rintro ⟨rfl, -⟩; exact (nbr_nbr j d).symm
      · rintro rfl; exact ⟨(nbr_nbr j c).symm, rfl⟩
    rw [tallyAt_apply]
    by_cases hd : d = nbr j c
    · rw [if_pos (hj.2 hd), if_pos hd]
    · rw [if_neg (fun h => hd (hj.1 h)), if_neg hd]
  unfold O₀ owed1 owed2
  simp only [Pi.add_apply, Finsupp.add_apply]
  rw [hb, hb, hb, rest_at_bar, Nat.zero_add]

theorem owed_dma (d c : Dev nD) {k : Cl} (hk : k ∈ order) : O₀ d (dcell c k) () = if d = peer c k then amt k else 0 := by
  unfold O₀ owed1 owed2
  simp only [Pi.add_apply, Finsupp.add_apply]
  rw [tallyAt_ne_cell (barCell_ne _ _ _).symm, tallyAt_ne_cell (barCell_ne _ _ _).symm, tallyAt_ne_cell (barCell_ne _ _ _).symm,
    rest_at d c k (l := order) (by decide)]
  simp only [hk, true_and]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_dma (c : Dev nD) {k : Cl} (hk : k ∈ order) :
    tallyOn (dcell c k) (launchCredit (Pipeline.owing O₀) 0 (dcell c k)) = (tallyAt (dcell c k) () (amt k) : CellTallies nD τ sig Unit) := by
  unfold tallyAt; refine congrArg _ (Finsupp.ext fun u => ?_); cases u
  rw [Pipeline.launchCredit_owing, Finsupp.single_eq_same, Finset.sum_congr rfl fun d _ => owed_dma d c hk]
  simp only [Finset.sum_ite_eq', Finset.mem_univ, if_true]

omit [FloatOps F] in
theorem creds (c : Dev nD) :
    (Pipeline.launchCred O₀ c : sProp 𝕄) ⊢ iprop(cred (tallyAt (barCell c) () 3) ∗ seps (fun k => cred (tallyAt (dcell c k) () (amt k))) recvOrder) := by
  unfold Pipeline.launchCred
  rw [bigSep_univ_at _ (SemLoc.reg barS), launch_bar, ← seps_eq _ (l := recvOrder) (by decide)]
  have hm : ∀ k ∈ recvOrder.toFinset, k ∈ order := by decide
  refine sep_mono_right ?_
  have hsub : (recvOrder.toFinset.image fun k => (SemLoc.dma (enc k) : SemLoc sig)) ⊆ Finset.univ.erase (SemLoc.reg barS) := fun s hs => by
    obtain ⟨k, -, rfl⟩ := Finset.mem_image.1 hs
    exact Finset.mem_erase.2 ⟨(bar_ne_dma _).symm, Finset.mem_univ _⟩
  have he : bigSep (recvOrder.toFinset.image fun k => (SemLoc.dma (enc k) : SemLoc sig))
        (fun sm => (cred (tallyOn ((c : Thread nD τ), sm) (launchCredit (Pipeline.owing O₀) 0 ((c : Thread nD τ), sm))) : sProp 𝕄))
      = bigSep recvOrder.toFinset fun k => cred (tallyAt (dcell c k) () (amt k)) := by
    rw [bigSep_image_of_injOn (fun k _ k' _ h => enc_inj (SemLoc.dma.inj h))]
    exact bigSep_congr fun k hk => congrArg cred (launch_dma c (hm k hk))
  rw [← he]
  exact bigSep_subset hsub

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hw⟩, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    isplitl [Hx]
    · unfold xwPts X; iexact Hx
    · iexists (m ((c : Thread nD τ).loc main_v1)); unfold owPts; iexact Hw
  · iempintro

theorem scratch_eq (c : Dev nD) : (Pipeline.scopedRest (Ix := Unit) (Name := ℕ) (U := UU) (Lvl := ℕ) (Val := Elt F) cfg0.spec c : sProp 𝕄) = scratch (F := F) c := by
  rw [scopedRest0_eq]
  unfold scratch rwPts qwPts
  simp only [View.set_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs]; · iexact Hs
  iexact Hr

theorem phi1_exit (c : Dev nD) :
    (dats m 0 c).Φ (Fin.last cfg0.N) ⊢ iprop(result m c ∗ Pipeline.ownSems0 osem c ∗ Pipeline.scopedRest cfg0.spec c) := by
  rw [show (dats m 0 c).Φ (Fin.last cfg0.N) = finish m c from rfl, scratch_eq, ownSems0_eq]
  unfold finish
  iintro H
  iexact H

theorem waits (c : Dev nD) : (levAts L lv : sProp 𝕄) ⊢ Pipeline.cellsWaits cfgs (dats (F := F) m) () 0 c :=
  Pipeline.cellsWaits_intro cfgs (dats m) () 0 c fun w _ _ => w.elim0

/-- What a final state has on device `c`. -/
def Final (c : Dev nD) (s : MemSt nD τ sig (Elt F)) : Prop :=
  (s.mem ((c : Thread nD τ).loc main_v1) = outF m c ∧ s.mem ((c : Thread nD τ).loc main_arg0) = m ((c : Thread nD τ).loc main_arg0))
    ∧ ∀ sm : SemLoc sig, sm.isScoped .tc = false → s.sem ((c.tc : Thread nD τ), sm) = 0

/-- The result and the argument read off the memory. -/
theorem read_final (c : Dev nD) (s' : Phys nD τ sig (Elt F)) :
    iprop(result m c ∗ emp ∗ SI s') ⊢ |={Set.univ}=> (iprop(⌜Final m c s'.mem⌝ ∗ SI s') : sProp 𝕄) := by
  unfold result xwPts owPts
  rw [← unscopedSems0_eq]
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨Buf.eq_of_forall_mem_univ hw, Buf.eq_of_forall_mem_univ hx⟩, hs⟩
  · iexact HSI

set_option maxRecDepth 8000 in
/-- From any memory with every semaphore at zero, every run of the eight devices ends, with the sum in
    every device's result, the arguments as they were and every semaphore at zero. -/
theorem run_main : θ_run defs (onTc (τ := τ) (main (F := F))) (s₀ m ρ)
    (fun r => (∀ c : Dev nD, r.2.mem ((c : Thread nD τ).loc main_v1) = outF m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_kernel m) $$ HX with HG
      imodintro
      isplitl [HP]; · iexact HP
      iexact HG)
    (hglob := glob m)
    (hA := fun _ w => w.elim0) (hpf := fun _ k => k.elim0)
    (X := start m) (Y := result m) (Z := fun _ => iprop(emp))
    (hX := start_intro m ρ) (hin := phi0_intro m) (hout := phi1_exit m)
    (QY := Final m) (hY := read_final m)
    (hQ := fun _ h hs => ⟨fun c => (h c).2.2.1, sem_eq_zero hs fun c => (h c).2.2.2⟩)

end Cert.KernelIdealProof

end
-- ==== Proof.ValueKernelIdeal.lean ====
module

public import proofs.«01_k».proof.Defs
public import proofs.«01_k».proof.Proof.GeomKernelIdeal
public import proofs.«01_k».proof.Proof.Gen.ReferenceIdeal
public import Idealize.ShloMosaic.Lib.IdealHost
public import Idealize.ShloMosaic.Lib.Pointwise
public import Idealize.ShloMosaic.Lib.Pipeline.Value

@[expose] public section

/-! # The kernel's result is the reference's

Over the real numbers: a row of the kernel's result is the sum of the rows held by two devices that
are neighbours along `x`, one from each half of the whole array; the reference adds the same two rows. -/

noncomputable section

namespace Cert.KernelIdealProof

open Cert.KernelIdeal Cert.KernelIdeal.Gen
open Idealize.ShloMosaic
open Idealize.ShloMosaic.TcCoe

/-- Row `i` of half `h` of the whole array. -/
def halfAt (h : Fin 2) (i : S16384x1024.Idx) : Cert.ReferenceIdeal.S32768x1024.Idx :=
  ix2 ⟨h.val * 16384 + (i 0).val, by have : (i 0).val < 16384 := (i 0).isLt; omega⟩ (i 1)

/-- The half a device holds. -/
def halfOf (c : Dev nD) : Fin 2 := ⟨c.val / 4, by have h : c.val < 8 := c.isLt; omega⟩

theorem halfOf_ownQ : ∀ (c : Dev nD) (q : Fin 4), halfOf (ownQ c q) = halfOf c := by decide
theorem halfOf_nbr : ∀ c : Dev nD, halfOf (nbr 0 c) = 1 - halfOf c := by decide

theorem mesh_half : ∀ c : Dev nD, ((Layout.meshBlock [2, 2, 2] ![[0], []] c) (0 : Fin 2)).val = (halfOf c).val
    ∧ ((Layout.meshBlock [2, 2, 2] ![[0], []] c) (1 : Fin 2)).val = 0 := by decide

/-- A device's block, read at an index. -/
theorem block_at {α : Type} (v : Cert.ReferenceIdeal.S32768x1024.Idx → α) (c : Dev nD) (i : S16384x1024.Idx) :
    (Layout.blockN ⟨2, ![16384, 1024]⟩ ⟨2, ![32768, 1024]⟩ (Layout.meshBlock [2, 2, 2] ![[0], []] c) v) i = v (halfAt (halfOf c) i) := by
  rw [Layout.blockN_apply]
  refine congrArg v (funext fun b => Fin.ext ?_)
  obtain ⟨h0, h1⟩ := mesh_half c
  fin_cases b
  · show ((Layout.meshBlock [2, 2, 2] ![[0], []] c) (0 : Fin 2)).val * 16384 + (i 0).val = (halfOf c).val * 16384 + (i 0).val
    rw [h0]
  · show ((Layout.meshBlock [2, 2, 2] ![[0], []] c) (1 : Fin 2)).val * 1024 + (i 1).val = (i 1).val
    rw [h1]; omega

/-- What the reference computes, read at an index. -/
theorem reference_at (v : FVec Ideal Cert.ReferenceIdeal.S32768x1024 .f32) (i : Cert.ReferenceIdeal.S16384x1024.Idx) :
    Host.reduceAdd (shapeCast _ v Cert.ReferenceIdeal.Gen.facts.shapeCasts_S32768x1024_S2x16384x1024)
      (constant Cert.ReferenceIdeal.S_ .f32 0x00000000#32) Cert.ReferenceIdeal.Gen.facts.reducesTo_S2x16384x1024_S16384x1024_d0
      Cert.ReferenceIdeal.Gen.facts.h_S_ i = (v (halfAt 0 i) + v (halfAt 1 i) : EReal) := by
  have hk : ∀ (k : Fin 2) (r : Fin 16384) (s : Fin 1024), r.val = (i 0).val → s.val = (i 1).val →
      shapeCast Cert.ReferenceIdeal.S2x16384x1024 v Cert.ReferenceIdeal.Gen.facts.shapeCasts_S32768x1024_S2x16384x1024 (ix3 k r s) = v (halfAt k i) := by
    intro k r s hr hs
    refine shapeCast_apply _ _ _ _ ?_
    rw [Shape.rowMajor_val_two, Shape.rowMajor_val_three]
    show (k.val * 16384 + (i 0).val) * 1024 + (i 1).val = (k.val * 16384 + r.val) * 1024 + s.val
    rw [hr, hs]
  rw [ValueIdx.hostReduceAdd_apply, Ideal.hostReduceAdd_r3_a0, Fin.sum_univ_two]
  exact (congrArg₂ (fun a b : EReal => a + b) Ideal.ofBits_zero_f32
    (congrArg₂ (fun a b : EReal => a + b) (hk 0 (i 0) (i 1) rfl rfl) (hk 1 (i 0) (i 1) rfl rfl))).trans (zero_add _)

variable (m : (ℓ : Loc nD τ sig) → Buf (Elt Ideal) ℓ)

/-- The kernel's result on every device is the reference's. -/
theorem outF_eq (v : FVec Ideal Cert.ReferenceIdeal.S32768x1024 .f32)
    (h : ∀ c : Dev nD, X m c = Layout.blockN ⟨2, ![16384, 1024]⟩ ⟨2, ![32768, 1024]⟩ (Layout.meshBlock [2, 2, 2] ![[0], []] c) v) (c : Dev nD) :
    outF m c = Host.reduceAdd (shapeCast _ v Cert.ReferenceIdeal.Gen.facts.shapeCasts_S32768x1024_S2x16384x1024)
      (constant Cert.ReferenceIdeal.S_ .f32 0x00000000#32) Cert.ReferenceIdeal.Gen.facts.reducesTo_S2x16384x1024_S16384x1024_d0
      Cert.ReferenceIdeal.Gen.facts.h_S_ := by
  funext i
  refine Eq.trans ?_ (reference_at v i).symm
  unfold outF
  show (X m (nbr 0 (ownQ c _)) i + X m (ownQ c _) i : EReal) = _
  rw [h, h, block_at, block_at, halfOf_nbr, halfOf_ownQ]
  generalize halfOf c = t
  fin_cases t
  · exact add_comm _ _
  · rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.ValueKernelIdeal
public import Idealize.ShloMosaic.Adequacy
public import Idealize.ShloMosaic.Init

@[expose] public section

noncomputable section

namespace Cert.Proof

open Idealize.ShloMosaic Idealize.SL.Sem Cert.Kernel

/-- The kernel runs to its end, its argument unchanged and every semaphore at zero. -/
theorem quiescent_kernel : quiescent_Kernel (hKernel := Cert.Kernel.Gen.facts) := fun m g _ =>
  (θ_run _ _ _).mono (fun _ h => ⟨fun c => (h.1 c).2, h.2⟩) (Cert.KernelProof.run_main m g)

/-- So does the kernel over the real numbers. -/
theorem quiescent_kernelIdeal : quiescent_KernelIdeal (hKernelIdeal := Cert.KernelIdeal.Gen.facts) := fun m g _ =>
  (θ_run _ _ _).mono (fun _ h => ⟨fun c => (h.1 c).2, h.2⟩) (Cert.KernelIdealProof.run_main m g)

/-- And the reference, which has no semaphores. -/
theorem quiescent_referenceIdeal : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts,
  quiescent_kernel, quiescent_kernelIdeal, quiescent_referenceIdeal, trivial,
  fun m g m' g' _ h => ⟨_,
    (θ_run _ _ _).mono (fun _ hr c => ⟨(hr.1 c).1.trans (Cert.KernelIdealProof.outF_eq m _ h c), (hr.1 c).2⟩) (Cert.KernelIdealProof.run_main m g),
    (θ_run _ _ _).mono (fun _ hr => hr 0) (Cert.ReferenceIdeal.Value.run m' g')⟩⟩

end Cert.Proof

end
